-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_scores_finite [hPre_scores_finite : Cert.Pre_scores_finite.Facts] (m : (ℓ : Loc Cert.MlaIdeal.nD Cert.MlaIdeal.τ Cert.MlaIdeal.sig) → Buf (Elt Ideal) ℓ) : Prop :=
  ∀ c : Dev Cert.MlaIdeal.nD,
    (Cert.Pre_scores_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_scores_finite [hPre_scores_finite : Cert.Pre_scores_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_scores_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_scores_finite [hPre_diff_scores_finite : Cert.Pre_diff_scores_finite.Facts] (m : (ℓ : Loc Cert.DiffIdeal.nD Cert.DiffIdeal.τ Cert.DiffIdeal.sig) → Buf (Elt Ideal) ℓ) : Prop :=
  ∀ c : Dev Cert.DiffIdeal.nD,
    (Cert.Pre_diff_scores_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_diff_scores_finite [hPre_diff_scores_finite : Cert.Pre_diff_scores_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_diff_scores_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_cross_scores_finite [hPre_cross_scores_finite : Cert.Pre_cross_scores_finite.Facts] (m : (ℓ : Loc Cert.CrossIdeal.nD Cert.CrossIdeal.τ Cert.CrossIdeal.sig) → Buf (Elt Ideal) ℓ) : Prop :=
  ∀ c : Dev Cert.CrossIdeal.nD,
    (Cert.Pre_cross_scores_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_cross_scores_finite [hPre_cross_scores_finite : Cert.Pre_cross_scores_finite.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_cross_scores_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4))) = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_scores_finite [hMlaIdeal : Cert.MlaIdeal.Facts] [hPre_scores_finite : Cert.Pre_scores_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_scores_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_scores_finite [hMlaRefIdeal : Cert.MlaRefIdeal.Facts] [hPre_scores_finite : Cert.Pre_scores_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_scores_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_diff_scores_finite [hDiffIdeal : Cert.DiffIdeal.Facts] [hPre_diff_scores_finite : Cert.Pre_diff_scores_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_scores_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_DiffRefIdeal_pre_diff_scores_finite [hDiffRefIdeal : Cert.DiffRefIdeal.Facts] [hPre_diff_scores_finite : Cert.Pre_diff_scores_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_diff_scores_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossIdeal_pre_cross_scores_finite [hCrossIdeal : Cert.CrossIdeal.Facts] [hPre_cross_scores_finite : Cert.Pre_cross_scores_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_cross_scores_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_CrossRefIdeal_pre_cross_scores_finite [hCrossRefIdeal : Cert.CrossRefIdeal.Facts] [hPre_cross_scores_finite : Cert.Pre_cross_scores_finite.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_cross_scores_finite m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def preserves_Mla_MlaIdeal : Prop :=
  IdealRules.named_const.Statement Cert.MlaIdeal.κ "mask" .f32 0xF149F2CA#32 ⊥

def algebraic_MlaIdeal_MlaRefIdeal_pre_scores_finite [hMlaIdeal : Cert.MlaIdeal.Facts] [hMlaRefIdeal : Cert.MlaRefIdeal.Facts] [hPre_scores_finite : Cert.Pre_scores_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_scores_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v30) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Diff_DiffIdeal : Prop :=
  IdealRules.named_const.Statement Cert.DiffIdeal.κ "mask" .f32 0xF149F2CA#32 ⊥

def algebraic_DiffIdeal_DiffRefIdeal_pre_diff_scores_finite [hDiffIdeal : Cert.DiffIdeal.Facts] [hDiffRefIdeal : Cert.DiffRefIdeal.Facts] [hPre_diff_scores_finite : Cert.Pre_diff_scores_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_diff_scores_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v0)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v0) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v68) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v42) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v55) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Cross_CrossIdeal : Prop :=
  True

def algebraic_CrossIdeal_CrossRefIdeal_pre_cross_scores_finite [hCrossIdeal : Cert.CrossIdeal.Facts] [hCrossRefIdeal : Cert.CrossRefIdeal.Facts] [hPre_cross_scores_finite : Cert.Pre_cross_scores_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_cross_scores_finite m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)) →
    ∃ (v0 : (c : Dev Cert.CrossIdeal.nD) → Buf (Elt Ideal) ((c.tc : Thread Cert.CrossIdeal.nD Cert.CrossIdeal.τ).loc Cert.CrossIdeal.main_v2)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v2) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v62) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v77) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v24_2)) (v1 : (c : Dev Cert.InProjIdeal.nD) → Buf (Elt Ideal) ((c.tc : Thread Cert.InProjIdeal.nD Cert.InProjIdeal.τ).loc Cert.InProjIdeal.main_v24_3)) (v2 : (c : Dev Cert.InProjIdeal.nD) → Buf (Elt Ideal) ((c.tc : Thread Cert.InProjIdeal.nD Cert.InProjIdeal.τ).loc Cert.InProjIdeal.main_v24_6)) (v3 : (c : Dev Cert.InProjIdeal.nD) → Buf (Elt Ideal) ((c.tc : Thread Cert.InProjIdeal.nD Cert.InProjIdeal.τ).loc Cert.InProjIdeal.main_v24_9)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v24_2) = v0 c
          ∧ r.2.mem ((c.tc : Thread Cert.InProjIdeal.nD Cert.InProjIdeal.τ).loc Cert.InProjIdeal.main_v24_3) = v1 c
          ∧ r.2.mem ((c.tc : Thread Cert.InProjIdeal.nD Cert.InProjIdeal.τ).loc Cert.InProjIdeal.main_v24_6) = v2 c
          ∧ r.2.mem ((c.tc : Thread Cert.InProjIdeal.nD Cert.InProjIdeal.τ).loc Cert.InProjIdeal.main_v24_9) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v50) = v0 c
          ∧ r.2.mem ((c.tc : Thread Cert.InProjRefIdeal.nD Cert.InProjRefIdeal.τ).loc Cert.InProjRefIdeal.main_v52) = v1 c
          ∧ r.2.mem ((c.tc : Thread Cert.InProjRefIdeal.nD Cert.InProjRefIdeal.τ).loc Cert.InProjRefIdeal.main_v53) = v2 c
          ∧ r.2.mem ((c.tc : Thread Cert.InProjRefIdeal.nD Cert.InProjRefIdeal.τ).loc Cert.InProjRefIdeal.main_v54) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def Claim : Prop :=
  ∃ (hMla : Cert.Mla.Facts) (hMlaIdeal : Cert.MlaIdeal.Facts) (hMlaRefIdeal : Cert.MlaRefIdeal.Facts) (hDiff : Cert.Diff.Facts) (hDiffIdeal : Cert.DiffIdeal.Facts) (hDiffRefIdeal : Cert.DiffRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hCross : Cert.Cross.Facts) (hCrossIdeal : Cert.CrossIdeal.Facts) (hCrossRefIdeal : Cert.CrossRefIdeal.Facts) (hMemKv : Cert.MemKv.Facts) (hMemKvIdeal : Cert.MemKvIdeal.Facts) (hMemKvRefIdeal : Cert.MemKvRefIdeal.Facts) (hInProj : Cert.InProj.Facts) (hInProjIdeal : Cert.InProjIdeal.Facts) (hInProjRefIdeal : Cert.InProjRefIdeal.Facts) (hPre_scores_finite : Cert.Pre_scores_finite.Facts) (hPre_diff_scores_finite : Cert.Pre_diff_scores_finite.Facts) (hPre_cross_scores_finite : Cert.Pre_cross_scores_finite.Facts),
    quiescent_Mla (hMla := hMla)
    ∧ quiescent_MlaIdeal (hMlaIdeal := hMlaIdeal)
    ∧ quiescent_MlaIdeal_pre_scores_finite (hMlaIdeal := hMlaIdeal) (hPre_scores_finite := hPre_scores_finite)
    ∧ quiescent_MlaRefIdeal (hMlaRefIdeal := hMlaRefIdeal)
    ∧ quiescent_MlaRefIdeal_pre_scores_finite (hMlaRefIdeal := hMlaRefIdeal) (hPre_scores_finite := hPre_scores_finite)
    ∧ quiescent_Diff (hDiff := hDiff)
    ∧ quiescent_DiffIdeal (hDiffIdeal := hDiffIdeal)
    ∧ quiescent_DiffIdeal_pre_diff_scores_finite (hDiffIdeal := hDiffIdeal) (hPre_diff_scores_finite := hPre_diff_scores_finite)
    ∧ quiescent_DiffRefIdeal (hDiffRefIdeal := hDiffRefIdeal)
    ∧ quiescent_DiffRefIdeal_pre_diff_scores_finite (hDiffRefIdeal := hDiffRefIdeal) (hPre_diff_scores_finite := hPre_diff_scores_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Cross (hCross := hCross)
    ∧ quiescent_CrossIdeal (hCrossIdeal := hCrossIdeal)
    ∧ quiescent_CrossIdeal_pre_cross_scores_finite (hCrossIdeal := hCrossIdeal) (hPre_cross_scores_finite := hPre_cross_scores_finite)
    ∧ quiescent_CrossRefIdeal (hCrossRefIdeal := hCrossRefIdeal)
    ∧ quiescent_CrossRefIdeal_pre_cross_scores_finite (hCrossRefIdeal := hCrossRefIdeal) (hPre_cross_scores_finite := hPre_cross_scores_finite)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_InProj (hInProj := hInProj)
    ∧ quiescent_InProjIdeal (hInProjIdeal := hInProjIdeal)
    ∧ quiescent_InProjRefIdeal (hInProjRefIdeal := hInProjRefIdeal)
    ∧ preserves_Mla_MlaIdeal
    ∧ algebraic_MlaIdeal_MlaRefIdeal_pre_scores_finite (hMlaIdeal := hMlaIdeal) (hMlaRefIdeal := hMlaRefIdeal) (hPre_scores_finite := hPre_scores_finite)
    ∧ preserves_Diff_DiffIdeal
    ∧ algebraic_DiffIdeal_DiffRefIdeal_pre_diff_scores_finite (hDiffIdeal := hDiffIdeal) (hDiffRefIdeal := hDiffRefIdeal) (hPre_diff_scores_finite := hPre_diff_scores_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Cross_CrossIdeal
    ∧ algebraic_CrossIdeal_CrossRefIdeal_pre_cross_scores_finite (hCrossIdeal := hCrossIdeal) (hCrossRefIdeal := hCrossRefIdeal) (hPre_cross_scores_finite := hPre_cross_scores_finite)
    ∧ preserves_MemKv_MemKvIdeal
    ∧ algebraic_MemKvIdeal_MemKvRefIdeal (hMemKvIdeal := hMemKvIdeal) (hMemKvRefIdeal := hMemKvRefIdeal)
    ∧ preserves_InProj_InProjIdeal
    ∧ algebraic_InProjIdeal_InProjRefIdeal (hInProjIdeal := hInProjIdeal) (hInProjRefIdeal := hInProjRefIdeal)
-- ==== Pre_cross_scores_finite.lean ====
abbrev S8x2048x1024 : Shape := ⟨3, ![8, 2048, 1024]⟩
abbrev S4x3x1024 : Shape := ⟨3, ![4, 3, 1024]⟩
abbrev S4x8x256x2048 : Shape := ⟨4, ![4, 8, 256, 2048]⟩
abbrev S4x1024x1024 : Shape := ⟨3, ![4, 1024, 1024]⟩
abbrev S1x1x1024 : Shape := ⟨3, ![1, 1, 1024]⟩
abbrev S_ : Shape := ⟨0, ![]⟩
abbrev S1x8x256x1024 : Shape := ⟨4, ![1, 8, 256, 1024]⟩
abbrev S1x1024x1024 : Shape := ⟨3, ![1, 1024, 1024]⟩

class Facts : Prop where
  slices_S4x3x1024_S1x1x1024_0_0_0 : S4x3x1024.Slices ![0, 0, 0] S1x1x1024
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  slices_S4x8x256x2048_S1x8x256x1024_0_0_0_0 : S4x8x256x2048.Slices ![0, 0, 0, 0] S1x8x256x1024
  bitsLt_bf16_f32 : FTy.bits .bf16 < FTy.bits .f32
  bcast_S_S1x8x256x1024 : S_.BroadcastsInDim S1x8x256x1024 (![] : Fin 0 → Fin S1x8x256x1024.rank)
  reducesTo_S1x8x256x1024_S_d0_1_2_3 : S1x8x256x1024.ReducesTo [0, 1, 2, 3] S_
  slices_S4x1024x1024_S1x1024x1024_0_0_0 : S4x1024x1024.Slices ![0, 0, 0] S1x1024x1024
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn {F : FTy → Type} [FloatOps F] (main_arg0 : FVec F S8x2048x1024 .f32) (main_arg1 : FVec F S4x3x1024 .f32) (main_arg2 : FVec F S4x8x256x2048 .bf16) (main_arg3 : FVec F S4x1024x1024 .f32) (main_arg4 : FVec F S4x1024x1024 .f32) : IVec S_ 1 :=
  let main_v0 : FVec F S1x1x1024 .f32 := (extractStridedSlice S1x1x1024 ![0, 0, 0] · slices_S4x3x1024_S1x1x1024_0_0_0) main_arg1
  let main_v1 : FVec F S1x1x1024 .f32 := Host.absf main_v0
  let main_cst : FVec F S_ .f32 := constant S_ .f32 0x7F800000#32
  let main_v2 : FVec F S1x1x1024 .f32 := broadcastInDim S1x1x1024 ![] bcast_S_S1x1x1024 main_cst
  let main_v3 : IVec S1x1x1024 1 := cmpf .olt main_v1 main_v2
  let main_c : IVec S_ 1 := constantI S_ 1 1#1
  let main_v4 : IVec S_ 1 := (fun x v => Host.reduce IntOp.andi x v reducesTo_S1x1x1024_S_d0_1_2 h_S_) main_v3 main_c
  let main_v5 : FVec F S1x8x256x1024 .bf16 := (extractStridedSlice S1x8x256x1024 ![0, 0, 0, 0] · slices_S4x8x256x2048_S1x8x256x1024_0_0_0_0) main_arg2
  let main_v6 : FVec F S1x8x256x1024 .f32 := (extf .f32 · bitsLt_bf16_f32) main_v5
  let main_v7 : FVec F S1x8x256x1024 .f32 := Host.absf main_v6
  let main_cst_0 : FVec F S_ .f32 := constant S_ .f32 0x7F800000#32
  let main_v8 : FVec F S1x8x256x1024 .f32 := broadcastInDim S1x8x256x1024 ![] bcast_S_S1x8x256x1024 main_cst_0
  let main_v9 : IVec S1x8x256x1024 1 := cmpf .olt main_v7 main_v8
  let main_c_1 : IVec S_ 1 := constantI S_ 1 1#1
  let main_v10 : IVec S_ 1 := (fun x v => Host.reduce IntOp.andi x v reducesTo_S1x8x256x1024_S_d0_1_2_3 h_S_) main_v9 main_c_1
  let main_v11 : IVec S_ 1 := andi main_v4 main_v10
  let main_v12 : FVec F S1x1024x1024 .f32 := (extractStridedSlice S1x1024x1024 ![0, 0, 0] · slices_S4x1024x1024_S1x1024x1024_0_0_0) main_arg3
  let main_v13 : FVec F S1x1024x1024 .f32 := Host.absf main_v12
  let main_cst_2 : FVec F S_ .f32 := constant S_ .f32 0x7F800000#32
  let main_v14 : FVec F S1x1024x1024 .f32 := broadcastInDim S1x1024x1024 ![] bcast_S_S1x1024x1024 main_cst_2
  let main_v15 : IVec S1x1024x1024 1 := cmpf .olt main_v13 main_v14
  let main_c_3 : IVec S_ 1 := constantI S_ 1 1#1
  let main_v16 : IVec S_ 1 := (fun x v => Host.reduce IntOp.andi x v reducesTo_S1x1024x1024_S_d0_1_2 h_S_) main_v15 main_c_3
  let main_v17 : IVec S_ 1 := andi main_v11 main_v16
  main_v17
-- ==== Pre_diff_scores_finite.lean ====
abbrev S8x2048x512 : Shape := ⟨3, ![8, 2048, 512]⟩
abbrev S4x64 : Shape := ⟨2, ![4, 64]⟩
abbrev S1x1 : Shape := ⟨2, ![1, 1]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .bf16) (main_arg1 : FVec F S8x2048x512 .bf16) (main_arg2 : FVec F S8x2048x512 .bf16) (main_arg3 : FVec F S4x64 .f32) (main_arg4 : FVec F S1x1 .f32) : IVec S_ 1 :=
  let main_v0 : FVec F S8x2048x512 .f32 := (extf .f32 · bitsLt_bf16_f32) main_arg0
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_c : IVec S_ 1 := constantI S_ 1 1#1
  let main_v4 : IVec S_ 1 := (fun x v => Host.reduce IntOp.andi x v reducesTo_S8x2048x512_S_d0_1_2 h_S_) main_v3 main_c
  let main_v5 : FVec F S8x2048x512 .f32 := (extf .f32 · bitsLt_bf16_f32) main_arg1
  let main_v6 : FVec F S8x2048x512 .f32 := Host.absf main_v5
  let main_cst_0 : FVec F S_ .f32 := constant S_ .f32 0x7F800000#32
  let main_v7 : FVec F S8x2048x512 .f32 := broadcastInDim S8x2048x512 ![] bcast_S_S8x2048x512 main_cst_0
  let main_v8 : IVec S8x2048x512 1 := cmpf .olt main_v6 main_v7
  let main_c_1 : IVec S_ 1 := constantI S_ 1 1#1
  let main_v9 : IVec S_ 1 := (fun x v => Host.reduce IntOp.andi x v reducesTo_S8x2048x512_S_d0_1_2 h_S_) main_v8 main_c_1
  let main_v10 : IVec S_ 1 := andi main_v4 main_v9
  main_v10
-- ==== Pre_scores_finite.lean ====
abbrev S8x2048x1024 : Shape := ⟨3, ![8, 2048, 1024]⟩
abbrev S8x2048x512 : Shape := ⟨3, ![8, 2048, 512]⟩
abbrev S_ : Shape := ⟨0, ![]⟩

class Facts : Prop where
  bitsLt_bf16_f32 : FTy.bits .bf16 < FTy.bits .f32
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .bf16) (main_arg1 : FVec F S8x2048x1024 .bf16) (main_arg2 : FVec F S8x2048x512 .bf16) : IVec S_ 1 :=
  let main_v0 : FVec F S8x2048x1024 .f32 := (extf .f32 · bitsLt_bf16_f32) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S8x2048x1024 .f32 := (extf .f32 · bitsLt_bf16_f32) main_arg1
  let main_v6 : FVec F S8x2048x1024 .f32 := Host.absf main_v5
  let main_cst_0 : FVec F S_ .f32 := constant S_ .f32 0x7F800000#32
  let main_v7 : FVec F S8x2048x1024 .f32 := broadcastInDim S8x2048x1024 ![] bcast_S_S8x2048x1024 main_cst_0
  let main_v8 : IVec S8x2048x1024 1 := cmpf .olt main_v6 main_v7
  let main_c_1 : IVec S_ 1 := constantI S_ 1 1#1
  let main_v9 : IVec S_ 1 := (fun x v => Host.reduce IntOp.andi x v reducesTo_S8x2048x1024_S_d0_1_2 h_S_) main_v8 main_c_1
  let main_v10 : IVec S_ 1 := andi main_v4 main_v9
  main_v10
-- ==== Mla.lean ====
abbrev S8x2048x1024 : Shape := ⟨3, ![8, 2048, 1024]⟩
abbrev S8x2048x512 : Shape := ⟨3, ![8, 2048, 512]⟩
abbrev S1x2048x256 : Shape := ⟨3, ![1, 2048, 256]⟩
abbrev S1x2048x128 : Shape := ⟨3, ![1, 2048, 128]⟩
abbrev S256x256 : Shape := ⟨2, ![256, 256]⟩
abbrev S256x128 : Shape := ⟨2, ![256, 128]⟩
abbrev S1x256x128 : Shape := ⟨3, ![1, 256, 128]⟩
abbrev S2048x128 : Shape := ⟨2, ![2048, 128]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S1x512x128 : Shape := ⟨3, ![1, 512, 128]⟩
abbrev S768x128 : Shape := ⟨2, ![768, 128]⟩
abbrev S256x768 : Shape := ⟨2, ![256, 768]⟩
abbrev S1x768x128 : Shape := ⟨3, ![1, 768, 128]⟩
abbrev S1024x128 : Shape := ⟨2, ![1024, 128]⟩
abbrev S256x1024 : Shape := ⟨2, ![256, 1024]⟩
abbrev S1x1024x128 : Shape := ⟨3, ![1, 1024, 128]⟩
abbrev S1280x128 : Shape := ⟨2, ![1280, 128]⟩
abbrev S256x1280 : Shape := ⟨2, ![256, 1280]⟩
abbrev S1x1280x128 : Shape := ⟨3, ![1, 1280, 128]⟩
abbrev S1536x128 : Shape := ⟨2, ![1536, 128]⟩
abbrev S256x1536 : Shape := ⟨2, ![256, 1536]⟩
abbrev S1x1536x128 : Shape := ⟨3, ![1, 1536, 128]⟩
abbrev S1792x128 : Shape := ⟨2, ![1792, 128]⟩
abbrev S256x1792 : Shape := ⟨2, ![256, 1792]⟩
abbrev S1x1792x128 : Shape := ⟨3, ![1, 1792, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x512, .bf16⟩
  | .hbm, ⟨3, _⟩ => ⟨S8x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaIdeal.lean ====
variable {F : FTy → Type} [FloatOps F] [Named F]
def κ : String → Option EReal := fun
  | "mask" => some ⊥
  | _ => none
-- ==== MlaRefIdeal.lean ====
abbrev S8x2048x1024 : Shape := ⟨3, ![8, 2048, 1024]⟩
abbrev S8x2048x512 : Shape := ⟨3, ![8, 2048, 512]⟩
abbrev S8x2048x8x128 : Shape := ⟨4, ![8, 2048, 8, 128]⟩
abbrev S8x2048x8x64 : Shape := ⟨4, ![8, 2048, 8, 64]⟩
abbrev S8x8x2048x2048 : Shape := ⟨4, ![8, 8, 2048, 2048]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x512, .bf16⟩
  | .hbm, ⟨3, _⟩ => ⟨S8x2048x1024, .f32⟩
  | .hbm, ⟨4, _⟩ => ⟨S8x2048x8x128, .f32⟩
  | .hbm, ⟨5, _⟩ => ⟨S8x2048x1024, .f32⟩
  | .hbm, ⟨6, _⟩ => ⟨S8x2048x8x128, .f32⟩
  | .hbm, ⟨7, _⟩ => ⟨S8x2048x512, .f32⟩
  | .hbm, ⟨8, _⟩ => ⟨S8x2048x8x64, .f32⟩
  | .hbm, ⟨9, _⟩ => ⟨S8x8x2048x2048, .f32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S8x8x2048x2048, .i1⟩
  | .hbm, ⟨22, _⟩ => ⟨S8x8x2048x2048, .f32⟩
  | .hbm, ⟨23, _⟩ => ⟨S8x8x2048x2048, .f32⟩
  | .hbm, ⟨24, _⟩ => ⟨S_, .f32⟩
  | .hbm, ⟨25, _⟩ => ⟨S8x8x2048, .f32⟩
  | .hbm, ⟨26, _⟩ => ⟨S_, .f32⟩
  | .hbm, ⟨27, _⟩ => ⟨S8x8x2048, .f32⟩
  | .hbm, ⟨28, _⟩ => ⟨S8x8x2048, .f32⟩
  | .hbm, ⟨29, _⟩ => ⟨S8x8x2048x1, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S_, .f32⟩
  | .hbm, ⟨34, _⟩ => ⟨S8x8x2048, .f32⟩
  | .hbm, ⟨35, _⟩ => ⟨S8x8x2048x1, .f32⟩
  | .hbm, ⟨36, _⟩ => ⟨S8x8x2048x2048, .f32⟩
  | .hbm, ⟨37, _⟩ => ⟨S8x8x2048x2048, .f32⟩
  | .hbm, ⟨38, _⟩ => ⟨S8x8x64x2048, .f32⟩
  | .hbm, ⟨39, _⟩ => ⟨S8x2048x8x64, .f32⟩
  | .hbm, ⟨40, _⟩ => ⟨S8x2048x512, .f32⟩
  | .hbm, ⟨41, _⟩ => ⟨S8x2048x512, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Diff.lean ====
abbrev S8x2048x512 : Shape := ⟨3, ![8, 2048, 512]⟩
abbrev S4x64 : Shape := ⟨2, ![4, 64]⟩
abbrev S1x1 : Shape := ⟨2, ![1, 1]⟩
abbrev S1x2048x128 : Shape := ⟨3, ![1, 2048, 128]⟩
abbrev S256x256 : Shape := ⟨2, ![256, 256]⟩
abbrev S256x128 : Shape := ⟨2, ![256, 128]⟩
abbrev S1x64 : Shape := ⟨2, ![1, 64]⟩
abbrev S1 : Shape := ⟨1, ![1]⟩
abbrev S1x256x128 : Shape := ⟨3, ![1, 256, 128]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S1x1024x128 : Shape := ⟨3, ![1, 1024, 128]⟩
abbrev S1024x128 : Shape := ⟨2, ![1024, 128]⟩
abbrev S256x1024 : Shape := ⟨2, ![256, 1024]⟩
abbrev S1x1280x128 : Shape := ⟨3, ![1, 1280, 128]⟩
abbrev S1280x128 : Shape := ⟨2, ![1280, 128]⟩
abbrev S256x1280 : Shape := ⟨2, ![256, 1280]⟩
abbrev S1x1536x128 : Shape := ⟨3, ![1, 1536, 128]⟩
abbrev S1536x128 : Shape := ⟨2, ![1536, 128]⟩
abbrev S256x1536 : Shape := ⟨2, ![256, 1536]⟩
abbrev S1x1792x128 : Shape := ⟨3, ![1, 1792, 128]⟩
abbrev S1792x128 : Shape := ⟨2, ![1792, 128]⟩
abbrev S256x1792 : Shape := ⟨2, ![256, 1792]⟩

abbrev nBuf : Space → Nat
  | .hbm => 6
  | .vmem => 10
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S4x64, .f32⟩
  | .hbm, ⟨4, _⟩ => ⟨S1x1, .f32⟩
  | .hbm, ⟨5, _⟩ => ⟨S8x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S4x64, .f32⟩
  | .local _ .vmem, ⟨7, _⟩ => ⟨S1x1, .f32⟩
  | .local _ .vmem, ⟨8, _⟩ => ⟨S1x2048x128, .bf16⟩
  | .local _ .vmem, ⟨9, _⟩ => ⟨S1x2048x128, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DiffIdeal.lean ====
variable {F : FTy → Type} [FloatOps F] [Named F]
def κ : String → Option EReal := fun
  | "mask" => some ⊥
  | _ => none
-- ==== DiffRefIdeal.lean ====
abbrev S8x2048x512 : Shape := ⟨3, ![8, 2048, 512]⟩
abbrev S4x64 : Shape := ⟨2, ![4, 64]⟩
abbrev S1x1 : Shape := ⟨2, ![1, 1]⟩
abbrev S8x2048x4x2x64 : Shape := ⟨5, ![8, 2048, 4, 2, 64]⟩
abbrev S8x2048x4x128 : Shape := ⟨4, ![8, 2048, 4, 128]⟩
abbrev S1x64 : Shape := ⟨2, ![1, 64]⟩
abbrev S64 : Shape := ⟨1, ![64]⟩
abbrev S_ : Shape := ⟨0, ![]⟩
abbrev S8x4x2x2048x2048 : Shape := ⟨5, ![8, 4, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩

abbrev nBuf : Space → Nat
  | .hbm => 88
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S4x64, .f32⟩
  | .hbm, ⟨4, _⟩ => ⟨S1x1, .f32⟩
  | .hbm, ⟨5, _⟩ => ⟨S8x2048x512, .f32⟩
  | .hbm, ⟨6, _⟩ => ⟨S8x2048x4x2x64, .f32⟩
  | .hbm, ⟨7, _⟩ => ⟨S8x2048x512, .f32⟩
  | .hbm, ⟨8, _⟩ => ⟨S8x2048x4x2x64, .f32⟩
  | .hbm, ⟨9, _⟩ => ⟨S8x2048x512, .f32⟩
  | .hbm, ⟨10, _⟩ => ⟨S8x2048x4x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x4x2x2048x2048, .f32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S1x2048, .i32⟩
  | .hbm, ⟨36, _⟩ => ⟨S2048x1, .i32⟩
  | .hbm, ⟨37, _⟩ => ⟨S2048x2048, .i32⟩
  | .hbm, ⟨38, _⟩ => ⟨S2048x2048, .i32⟩
  | .hbm, ⟨39, _⟩ => ⟨S2048x2048, .i1⟩
  | .hbm, ⟨40, _⟩ => ⟨S_, .f32⟩
  | .hbm, ⟨41, _⟩ => ⟨S_, .f32⟩
  | .hbm, ⟨42, _⟩ => ⟨S8x4x2x2048x2048, .i1⟩
  | .hbm, ⟨43, _⟩ => ⟨S8x4x2x2048x2048, .f32⟩
  | .hbm, ⟨44, _⟩ => ⟨S8x4x2x2048x2048, .f32⟩
  | .hbm, ⟨45, _⟩ => ⟨S_, .f32⟩
  | .hbm, ⟨46, _⟩ => ⟨S8x4x2x2048, .f32⟩
  | .hbm, ⟨47, _⟩ => ⟨S_, .f32⟩
  | .hbm, ⟨48, _⟩ => ⟨S8x4x2x2048, .f32⟩
  | .hbm, ⟨49, _⟩ => ⟨S8x4x2x2048, .f32⟩
  | .hbm, ⟨50, _⟩ => ⟨S8x4x2x2048x1, .f32⟩
  | .hbm, ⟨51, _⟩ => ⟨S8x4x2x2048x2048, .f32⟩
  | .hbm, ⟨52, _⟩ => ⟨S8x4x2x2048x2048, .f32⟩
  | .hbm, ⟨53, _⟩ => ⟨S8x4x2x2048x2048, .f32⟩
  | .hbm, ⟨54, _⟩ => ⟨S_, .f32⟩
  | .hbm, ⟨55, _⟩ => ⟨S8x4x2x2048, .f32⟩
  | .hbm, ⟨56, _⟩ => ⟨S8x4x2x2048x1, .f32⟩
  | .hbm, ⟨57, _⟩ => ⟨S8x4x2x2048x2048, .f32⟩
  | .hbm, ⟨58, _⟩ => ⟨S8x4x2x2048x2048, .f32⟩
  | .hbm, ⟨59, _⟩ => ⟨S8x4x1x2048x2048, .f32⟩
  | .hbm, ⟨60, _⟩ => ⟨S8x4x2048x2048, .f32⟩
  | .hbm, ⟨61, _⟩ => ⟨S8x4x1x2048x2048, .f32⟩
  | .hbm, ⟨62, _⟩ => ⟨S8x4x2048x2048, .f32⟩
  | .hbm, ⟨63, _⟩ => ⟨S8x4x2048x2048, .f32⟩
  | .hbm, ⟨64, _⟩ => ⟨S8x4x2048x2048, .f32⟩
  | .hbm, ⟨65, _⟩ => ⟨S8x4x2048x2048, .f32⟩
  | .hbm, ⟨66, _⟩ => ⟨S8x4x128x2048, .f32⟩
  | .hbm, ⟨67, _⟩ => ⟨S8x2048x4x128, .f32⟩
  | .hbm, ⟨68, _⟩ => ⟨S8x2048x4x128, .f32⟩
  | .hbm, ⟨69, _⟩ => ⟨S_, .f32⟩
  | .hbm, ⟨70, _⟩ => ⟨S8x2048x4, .f32⟩
  | .hbm, ⟨71, _⟩ => ⟨S8x2048x4x1, .f32⟩
  | .hbm, ⟨72, _⟩ => ⟨S_, .f32⟩
  | .hbm, ⟨73, _⟩ => ⟨S8x2048x4x1, .f32⟩
  | .hbm, ⟨74, _⟩ => ⟨S8x2048x4x1, .f32⟩
  | .hbm, ⟨75, _⟩ => ⟨S_, .f32⟩
  | .hbm, ⟨76, _⟩ => ⟨S8x2048x4x1, .f32⟩
  | .hbm, ⟨77, _⟩ => ⟨S8x2048x4x1, .f32⟩
  | .hbm, ⟨78, _⟩ => ⟨S8x2048x4x1, .f32⟩
  | .hbm, ⟨79, _⟩ => ⟨S8x2048x4x128, .f32⟩
  | .hbm, ⟨80, _⟩ => ⟨S8x2048x4x128, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S8x2048x4x128, .f32⟩
  | .hbm, ⟨85, _⟩ => ⟨S8x2048x4x128, .f32⟩
  | .hbm, ⟨86, _⟩ => ⟨S8x2048x512, .f32⟩
  | .hbm, ⟨87, _⟩ => ⟨S8x2048x512, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Ffn.lean ====
abbrev S16384x1024 : Shape := ⟨2, ![16384, 1024]⟩
abbrev S4x2x1024 : Shape := ⟨3, ![4, 2, 1024]⟩
abbrev S4x1024x5632 : Shape := ⟨3, ![4, 1024, 5632]⟩
abbrev S4x2816x1024 : Shape := ⟨3, ![4, 2816, 1024]⟩
abbrev S512x1024 : Shape := ⟨2, ![512, 1024]⟩
abbrev S1x2x1024 : Shape := ⟨3, ![1, 2, 1024]⟩
abbrev S1x1024x5632 : Shape := ⟨3, ![1, 1024, 5632]⟩
abbrev S1x2816x1024 : Shape := ⟨3, ![1, 2816, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S4x2x1024, .f32⟩
  | .hbm, ⟨2, _⟩ => ⟨S4x1024x5632, .f32⟩
  | .hbm, ⟨3, _⟩ => ⟨S4x2816x1024, .f32⟩
  | .hbm, ⟨4, _⟩ => ⟨S4x1024x5632, .bf16⟩
  | .hbm, ⟨5, _⟩ => ⟨S4x2816x1024, .bf16⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x2x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S16384x1024 : Shape := ⟨2, ![16384, 1024]⟩
abbrev S4x2x1024 : Shape := ⟨3, ![4, 2, 1024]⟩
abbrev S4x1024x5632 : Shape := ⟨3, ![4, 1024, 5632]⟩
abbrev S4x2816x1024 : Shape := ⟨3, ![4, 2816, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x2x1024, .f32⟩
  | .hbm, ⟨2, _⟩ => ⟨S4x1024x5632, .f32⟩
  | .hbm, ⟨3, _⟩ => ⟨S4x2816x1024, .f32⟩
  | .hbm, ⟨4, _⟩ => ⟨S1x1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1x1024x5632, .f32⟩
  | .hbm, ⟨23, _⟩ => ⟨S1024x5632, .f32⟩
  | .hbm, ⟨24, _⟩ => ⟨S1x2816x1024, .f32⟩
  | .hbm, ⟨25, _⟩ => ⟨S2816x1024, .f32⟩
  | .hbm, ⟨26, _⟩ => ⟨S16384x5632, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x1024, .f32⟩
  | .hbm, ⟨40, _⟩ => ⟨S1x1x1024, .f32⟩
  | .hbm, ⟨41, _⟩ => ⟨S1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Merge.lean ====
abbrev S16384x1024 : Shape := ⟨2, ![16384, 1024]⟩
abbrev S4x2x1024 : Shape := ⟨3, ![4, 2, 1024]⟩
abbrev S16384x512 : Shape := ⟨2, ![16384, 512]⟩
abbrev S4x1024x6560 : Shape := ⟨3, ![4, 1024, 6560]⟩
abbrev S4x3x512x1024 : Shape := ⟨4, ![4, 3, 512, 1024]⟩
abbrev S4x1024x1024 : Shape := ⟨3, ![4, 1024, 1024]⟩
abbrev S4x1024x3072 : Shape := ⟨3, ![4, 1024, 3072]⟩
abbrev S512x1024 : Shape := ⟨2, ![512, 1024]⟩
abbrev S1x2x1024 : Shape := ⟨3, ![1, 2, 1024]⟩
abbrev S512x512 : Shape := ⟨2, ![512, 512]⟩
abbrev S1x1024x3072 : Shape := ⟨3, ![1, 1024, 3072]⟩
abbrev S1x3x512x1024 : Shape := ⟨4, ![1, 3, 512, 1024]⟩
abbrev S1x1024x1024 : Shape := ⟨3, ![1, 1024, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1x1x512x1024 : Shape := ⟨4, ![1, 1, 512, 1024]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S4x2x1024, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S4x1024x6560, .f32⟩
  | .hbm, ⟨6, _⟩ => ⟨S4x3x512x1024, .f32⟩
  | .hbm, ⟨7, _⟩ => ⟨S4x1024x1024, .f32⟩
  | .hbm, ⟨8, _⟩ => ⟨S4x1024x3072, .f32⟩
  | .hbm, ⟨9, _⟩ => ⟨S4x1024x3072, .bf16⟩
  | .hbm, ⟨10, _⟩ => ⟨S4x3x512x1024, .bf16⟩
  | .hbm, ⟨11, _⟩ => ⟨S4x1024x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x2x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S1x1024x3072, .bf16⟩
  | .local _ .vmem, ⟨10, _⟩ => ⟨S1x3x512x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S16384x1024 : Shape := ⟨2, ![16384, 1024]⟩
abbrev S4x2x1024 : Shape := ⟨3, ![4, 2, 1024]⟩
abbrev S16384x512 : Shape := ⟨2, ![16384, 512]⟩
abbrev S4x1024x6560 : Shape := ⟨3, ![4, 1024, 6560]⟩
abbrev S4x3x512x1024 : Shape := ⟨4, ![4, 3, 512, 1024]⟩
abbrev S4x1024x1024 : Shape := ⟨3, ![4, 1024, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x6560 : Shape := ⟨3, ![1, 1024, 6560]⟩
abbrev S1024x6560 : Shape := ⟨2, ![1024, 6560]⟩
abbrev S16384x6560 : Shape := ⟨2, ![16384, 6560]⟩
abbrev S16384x3072 : Shape := ⟨2, ![16384, 3072]⟩
abbrev S16384x1x512 : Shape := ⟨3, ![16384, 1, 512]⟩
abbrev S16384x3x512 : Shape := ⟨3, ![16384, 3, 512]⟩
abbrev S1x3x512x1024 : Shape := ⟨4, ![1, 3, 512, 1024]⟩
abbrev S3x512x1024 : Shape := ⟨3, ![3, 512, 1024]⟩
abbrev S3x1024x16384 : Shape := ⟨3, ![3, 1024, 16384]⟩
abbrev S16384x3x1024 : Shape := ⟨3, ![16384, 3, 1024]⟩
abbrev S1x1024x1024 : Shape := ⟨3, ![1, 1024, 1024]⟩
abbrev S1024x1024 : Shape := ⟨2, ![1024, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x2x1024, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S4x1024x6560, .f32⟩
  | .hbm, ⟨6, _⟩ => ⟨S4x3x512x1024, .f32⟩
  | .hbm, ⟨7, _⟩ => ⟨S4x1024x1024, .f32⟩
  | .hbm, ⟨8, _⟩ => ⟨S1x1x1024, .f32⟩
  | .hbm, ⟨9, _⟩ => ⟨S1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1x1024x6560, .f32⟩
  | .hbm, ⟨27, _⟩ => ⟨S1024x6560, .f32⟩
  | .hbm, ⟨28, _⟩ => ⟨S16384x6560, .f32⟩
  | .hbm, ⟨29, _⟩ => ⟨S16384x3072, .f32⟩
  | .hbm, ⟨30, _⟩ => ⟨S16384x1x512, .bf16⟩
  | .hbm, ⟨31, _⟩ => ⟨S16384x1x512, .bf16⟩
  | .hbm, ⟨32, _⟩ => ⟨S16384x1x512, .bf16⟩
  | .hbm, ⟨33, _⟩ => ⟨S16384x3x512, .bf16⟩
  | .hbm, ⟨34, _⟩ => ⟨S16384x3x512, .f32⟩
  | .hbm, ⟨35, _⟩ => ⟨S1x3x512x1024, .f32⟩
  | .hbm, ⟨36, _⟩ => ⟨S3x512x1024, .f32⟩
  | .hbm, ⟨37, _⟩ => ⟨S3x1024x16384, .f32⟩
  | .hbm, ⟨38, _⟩ => ⟨S16384x3x1024, .f32⟩
  | .hbm, ⟨39, _⟩ => ⟨S16384x3x1024, .f32⟩
  | .hbm, ⟨40, _⟩ => ⟨S16384x3x1024, .f32⟩
  | .hbm, ⟨41, _⟩ => ⟨S16384x3x1024, .f32⟩
  | .hbm, ⟨42, _⟩ => ⟨S_, .f32⟩
  | .hbm, ⟨43, _⟩ => ⟨S16384x3x1024, .f32⟩
  | .hbm, ⟨44, _⟩ => ⟨S16384x3x1024, .f32⟩
  | .hbm, ⟨45, _⟩ => ⟨S_, .f32⟩
  | .hbm, ⟨46, _⟩ => ⟨S16384x3x1024, .f32⟩
  | .hbm, ⟨47, _⟩ => ⟨S16384x3x1024, .f32⟩
  | .hbm, ⟨48, _⟩ => ⟨S16384x3x1024, .f32⟩
  | .hbm, ⟨49, _⟩ => ⟨S_, .f32⟩
  | .hbm, ⟨50, _⟩ => ⟨S16384x1024, .f32⟩
  | .hbm, ⟨51, _⟩ => ⟨S1x1024x1024, .f32⟩
  | .hbm, ⟨52, _⟩ => ⟨S1024x1024, .f32⟩
  | .hbm, ⟨53, _⟩ => ⟨S16384x1024, .f32⟩
  | .hbm, ⟨54, _⟩ => ⟨S1x1x1024, .f32⟩
  | .hbm, ⟨55, _⟩ => ⟨S1024, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x1024, .f32⟩
  | .hbm, ⟨68, _⟩ => ⟨S16384x1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Cross.lean ====
abbrev S8x2048x1024 : Shape := ⟨3, ![8, 2048, 1024]⟩
abbrev S4x3x1024 : Shape := ⟨3, ![4, 3, 1024]⟩
abbrev S4x8x256x2048 : Shape := ⟨4, ![4, 8, 256, 2048]⟩
abbrev S4x1024x1024 : Shape := ⟨3, ![4, 1024, 1024]⟩
abbrev S1x512x1024 : Shape := ⟨3, ![1, 512, 1024]⟩
abbrev S1x3x1024 : Shape := ⟨3, ![1, 3, 1024]⟩
abbrev S1x1x256x2048 : Shape := ⟨4, ![1, 1, 256, 2048]⟩
abbrev S1x1024x1024 : Shape := ⟨3, ![1, 1024, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S512x256 : Shape := ⟨2, ![512, 256]⟩
abbrev S1x1x256x256 : Shape := ⟨4, ![1, 1, 256, 256]⟩
abbrev S256x256 : Shape := ⟨2, ![256, 256]⟩

abbrev nBuf : Space → Nat
  | .hbm => 8
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x3x1024, .f32⟩
  | .hbm, ⟨2, _⟩ => ⟨S4x8x256x2048, .bf16⟩
  | .hbm, ⟨3, _⟩ => ⟨S4x1024x1024, .f32⟩
  | .hbm, ⟨4, _⟩ => ⟨S4x1024x1024, .f32⟩
  | .hbm, ⟨5, _⟩ => ⟨S4x1024x1024, .bf16⟩
  | .hbm, ⟨6, _⟩ => ⟨S4x1024x1024, .bf16⟩
  | .hbm, ⟨7, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x1x256x2048, .bf16⟩
  | .local _ .vmem, ⟨4, _⟩ => ⟨S1x1x256x2048, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x512x1024, .f32⟩
  | .local _ .vmem, ⟨8, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CrossRefIdeal.lean ====
abbrev S8x2048x1024 : Shape := ⟨3, ![8, 2048, 1024]⟩
abbrev S4x3x1024 : Shape := ⟨3, ![4, 3, 1024]⟩
abbrev S4x8x256x2048 : Shape := ⟨4, ![4, 8, 256, 2048]⟩
abbrev S4x1024x1024 : Shape := ⟨3, ![4, 1024, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1024x1024 : Shape := ⟨3, ![1, 1024, 1024]⟩
abbrev S1024x1024 : Shape := ⟨2, ![1024, 1024]⟩
abbrev S8x2048x4x256 : Shape := ⟨4, ![8, 2048, 4, 256]⟩
abbrev S1x8x256x2048 : Shape := ⟨4, ![1, 8, 256, 2048]⟩
abbrev S8x256x2048 : Shape := ⟨3, ![8, 256, 2048]⟩
abbrev S8x256x2x4x256 : Shape := ⟨5, ![8, 256, 2, 4, 256]⟩
abbrev S8x256x1x4x256 : Shape := ⟨5, ![8, 256, 1, 4, 256]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x3x1024, .f32⟩
  | .hbm, ⟨2, _⟩ => ⟨S4x8x256x2048, .bf16⟩
  | .hbm, ⟨3, _⟩ => ⟨S4x1024x1024, .f32⟩
  | .hbm, ⟨4, _⟩ => ⟨S4x1024x1024, .f32⟩
  | .hbm, ⟨5, _⟩ => ⟨S1x1x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1x1024x1024, .f32⟩
  | .hbm, ⟨24, _⟩ => ⟨S1024x1024, .f32⟩
  | .hbm, ⟨25, _⟩ => ⟨S8x2048x1024, .f32⟩
  | .hbm, ⟨26, _⟩ => ⟨S8x2048x4x256, .f32⟩
  | .hbm, ⟨27, _⟩ => ⟨S1x8x256x2048, .bf16⟩
  | .hbm, ⟨28, _⟩ => ⟨S8x256x2048, .bf16⟩
  | .hbm, ⟨29, _⟩ => ⟨S8x256x2048, .f32⟩
  | .hbm, ⟨30, _⟩ => ⟨S8x256x2x4x256, .f32⟩
  | .hbm, ⟨31, _⟩ => ⟨S8x256x1x4x256, .f32⟩
  | .hbm, ⟨32, _⟩ => ⟨S8x256x4x256, .f32⟩
  | .hbm, ⟨33, _⟩ => ⟨S8x256x1x4x256, .f32⟩
  | .hbm, ⟨34, _⟩ => ⟨S8x256x4x256, .f32⟩
  | .hbm, ⟨35, _⟩ => ⟨S8x4x2048x256, .f32⟩
  | .hbm, ⟨36, _⟩ => ⟨S_, .f32⟩
  | .hbm, ⟨37, _⟩ => ⟨S8x4x2048x256, .f32⟩
  | .hbm, ⟨38, _⟩ => ⟨S8x4x2048x256, .f32⟩
  | .hbm, ⟨39, _⟩ => ⟨S_, .f32⟩
  | .hbm, ⟨40, _⟩ => ⟨S8x4x2048, .f32⟩
  | .hbm, ⟨41, _⟩ => ⟨S_, .f32⟩
  | .hbm, ⟨42, _⟩ => ⟨S8x4x2048, .f32⟩
  | .hbm, ⟨43, _⟩ => ⟨S8x4x2048, .f32⟩
  | .hbm, ⟨44, _⟩ => ⟨S8x4x2048x1, .f32⟩
  | .hbm, ⟨45, _⟩ => ⟨S8x4x2048x256, .f32⟩
  | .hbm, ⟨46, _⟩ => ⟨S8x4x2048x256, .f32⟩
  | .hbm, ⟨47, _⟩ => ⟨S8x4x2048x256, .f32⟩
  | .hbm, ⟨48, _⟩ => ⟨S_, .f32⟩
  | .hbm, ⟨49, _⟩ => ⟨S8x4x2048, .f32⟩
  | .hbm, ⟨50, _⟩ => ⟨S8x4x2048x1, .f32⟩
  | .hbm, ⟨51, _⟩ => ⟨S8x4x2048x256, .f32⟩
  | .hbm, ⟨52, _⟩ => ⟨S8x4x2048x256, .f32⟩
  | .hbm, ⟨53, _⟩ => ⟨S8x4x256x2048, .f32⟩
  | .hbm, ⟨54, _⟩ => ⟨S8x2048x4x256, .f32⟩
  | .hbm, ⟨55, _⟩ => ⟨S8x2048x1024, .f32⟩
  | .hbm, ⟨56, _⟩ => ⟨S1x1024x1024, .f32⟩
  | .hbm, ⟨57, _⟩ => ⟨S1024x1024, .f32⟩
  | .hbm, ⟨58, _⟩ => ⟨S8x2048x1024, .f32⟩
  | .hbm, ⟨59, _⟩ => ⟨S1x1x1024, .f32⟩
  | .hbm, ⟨60, _⟩ => ⟨S1024, .f32⟩
  | .hbm, ⟨61, _⟩ => ⟨S8x2048x1024, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x1024, .f32⟩
  | .hbm, ⟨73, _⟩ => ⟨S8x2048x1024, .f32⟩
  | .hbm, ⟨74, _⟩ => ⟨S1x1x1024, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== MemKv.lean ====
abbrev S8x256x1024 : Shape := ⟨3, ![8, 256, 1024]⟩
abbrev S4x3x1024 : Shape := ⟨3, ![4, 3, 1024]⟩
abbrev S4x1024x2048 : Shape := ⟨3, ![4, 1024, 2048]⟩
abbrev S4x8x256x2048 : Shape := ⟨4, ![4, 8, 256, 2048]⟩
abbrev S1x256x1024 : Shape := ⟨3, ![1, 256, 1024]⟩
abbrev S1x3x1024 : Shape := ⟨3, ![1, 3, 1024]⟩
abbrev S1x1024x2048 : Shape := ⟨3, ![1, 1024, 2048]⟩
abbrev S1x1x256x2048 : Shape := ⟨4, ![1, 1, 256, 2048]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S4x3x1024, .f32⟩
  | .hbm, ⟨2, _⟩ => ⟨S4x1024x2048, .f32⟩
  | .hbm, ⟨3, _⟩ => ⟨S4x1024x2048, .bf16⟩
  | .hbm, ⟨4, _⟩ => ⟨S4x8x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x1x256x2048, .bf16⟩
  | .local _ .vmem, ⟨7, _⟩ => ⟨S1x1x256x2048, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvRefIdeal.lean ====
abbrev S8x256x1024 : Shape := ⟨3, ![8, 256, 1024]⟩
abbrev S4x3x1024 : Shape := ⟨3, ![4, 3, 1024]⟩
abbrev S4x1024x2048 : Shape := ⟨3, ![4, 1024, 2048]⟩
abbrev S1x1x1024 : Shape := ⟨3, ![1, 1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1024x2048 : Shape := ⟨3, ![1, 1024, 2048]⟩
abbrev S1024x2048 : Shape := ⟨2, ![1024, 2048]⟩
abbrev S8x256x2048 : Shape := ⟨3, ![8, 256, 2048]⟩
abbrev S1x8x256x2048 : Shape := ⟨4, ![1, 8, 256, 2048]⟩
abbrev S4x8x256x2048 : Shape := ⟨4, ![4, 8, 256, 2048]⟩

abbrev nBuf : Space → Nat
  | .hbm => 93
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S4x3x1024, .f32⟩
  | .hbm, ⟨2, _⟩ => ⟨S4x1024x2048, .f32⟩
  | .hbm, ⟨3, _⟩ => ⟨S1x1x1024, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1x1024x2048, .f32⟩
  | .hbm, ⟨22, _⟩ => ⟨S1024x2048, .f32⟩
  | .hbm, ⟨23, _⟩ => ⟨S8x256x2048, .f32⟩
  | .hbm, ⟨24, _⟩ => ⟨S1x1x1024, .f32⟩
  | .hbm, ⟨25, _⟩ => ⟨S1024, .f32⟩
  | .hbm, ⟨26, _⟩ => ⟨S8x256x1024, .f32⟩
  | .hbm, ⟨27, _⟩ => ⟨S_, .f32⟩
  | .hbm, ⟨28, _⟩ => ⟨S8x256, .f32⟩
  | .hbm, ⟨29, _⟩ => ⟨S8x256x1, .f32⟩
  | .hbm, ⟨30, _⟩ => ⟨S_, .f32⟩
  | .hbm, ⟨31, _⟩ => ⟨S8x256x1, .f32⟩
  | .hbm, ⟨32, _⟩ => ⟨S8x256x1, .f32⟩
  | .hbm, ⟨33, _⟩ => ⟨S_, .f32⟩
  | .hbm, ⟨34, _⟩ => ⟨S8x256x1, .f32⟩
  | .hbm, ⟨35, _⟩ => ⟨S8x256x1, .f32⟩
  | .hbm, ⟨36, _⟩ => ⟨S8x256x1, .f32⟩
  | .hbm, ⟨37, _⟩ => ⟨S8x256x1024, .f32⟩
  | .hbm, ⟨38, _⟩ => ⟨S8x256x1024, .f32⟩
  | .hbm, ⟨39, _⟩ => ⟨S1x1x1024, .f32⟩
  | .hbm, ⟨40, _⟩ => ⟨S8x256x1024, .f32⟩
  | .hbm, ⟨41, _⟩ => ⟨S8x256x1024, .f32⟩
  | .hbm, ⟨42, _⟩ => ⟨S1x1024x2048, .f32⟩
  | .hbm, ⟨43, _⟩ => ⟨S1024x2048, .f32⟩
  | .hbm, ⟨44, _⟩ => ⟨S8x256x2048, .f32⟩
  | .hbm, ⟨45, _⟩ => ⟨S1x1x1024, .f32⟩
  | .hbm, ⟨46, _⟩ => ⟨S1024, .f32⟩
  | .hbm, ⟨47, _⟩ => ⟨S8x256x1024, .f32⟩
  | .hbm, ⟨48, _⟩ => ⟨S_, .f32⟩
  | .hbm, ⟨49, _⟩ => ⟨S8x256, .f32⟩
  | .hbm, ⟨50, _⟩ => ⟨S8x256x1, .f32⟩
  | .hbm, ⟨51, _⟩ => ⟨S_, .f32⟩
  | .hbm, ⟨52, _⟩ => ⟨S8x256x1, .f32⟩
  | .hbm, ⟨53, _⟩ => ⟨S8x256x1, .f32⟩
  | .hbm, ⟨54, _⟩ => ⟨S_, .f32⟩
  | .hbm, ⟨55, _⟩ => ⟨S8x256x1, .f32⟩
  | .hbm, ⟨56, _⟩ => ⟨S8x256x1, .f32⟩
  | .hbm, ⟨57, _⟩ => ⟨S8x256x1, .f32⟩
  | .hbm, ⟨58, _⟩ => ⟨S8x256x1024, .f32⟩
  | .hbm, ⟨59, _⟩ => ⟨S8x256x1024, .f32⟩
  | .hbm, ⟨60, _⟩ => ⟨S1x1x1024, .f32⟩
  | .hbm, ⟨61, _⟩ => ⟨S8x256x1024, .f32⟩
  | .hbm, ⟨62, _⟩ => ⟨S8x256x1024, .f32⟩
  | .hbm, ⟨63, _⟩ => ⟨S1x1024x2048, .f32⟩
  | .hbm, ⟨64, _⟩ => ⟨S1024x2048, .f32⟩
  | .hbm, ⟨65, _⟩ => ⟨S8x256x2048, .f32⟩
  | .hbm, ⟨66, _⟩ => ⟨S1x1x1024, .f32⟩
  | .hbm, ⟨67, _⟩ => ⟨S1024, .f32⟩
  | .hbm, ⟨68, _⟩ => ⟨S8x256x1024, .f32⟩
  | .hbm, ⟨69, _⟩ => ⟨S_, .f32⟩
  | .hbm, ⟨70, _⟩ => ⟨S8x256, .f32⟩
  | .hbm, ⟨71, _⟩ => ⟨S8x256x1, .f32⟩
  | .hbm, ⟨72, _⟩ => ⟨S_, .f32⟩
  | .hbm, ⟨73, _⟩ => ⟨S8x256x1, .f32⟩
  | .hbm, ⟨74, _⟩ => ⟨S8x256x1, .f32⟩
  | .hbm, ⟨75, _⟩ => ⟨S_, .f32⟩
  | .hbm, ⟨76, _⟩ => ⟨S8x256x1, .f32⟩
  | .hbm, ⟨77, _⟩ => ⟨S8x256x1, .f32⟩
  | .hbm, ⟨78, _⟩ => ⟨S8x256x1, .f32⟩
  | .hbm, ⟨79, _⟩ => ⟨S8x256x1024, .f32⟩
  | .hbm, ⟨80, _⟩ => ⟨S8x256x1024, .f32⟩
  | .hbm, ⟨81, _⟩ => ⟨S1x1x1024, .f32⟩
  | .hbm, ⟨82, _⟩ => ⟨S8x256x1024, .f32⟩
  | .hbm, ⟨83, _⟩ => ⟨S8x256x1024, .f32⟩
  | .hbm, ⟨84, _⟩ => ⟨S1x1024x2048, .f32⟩
  | .hbm, ⟨85, _⟩ => ⟨S1024x2048, .f32⟩
  | .hbm, ⟨86, _⟩ => ⟨S8x256x2048, .f32⟩
  | .hbm, ⟨87, _⟩ => ⟨S1x8x256x2048, .f32⟩
  | .hbm, ⟨88, _⟩ => ⟨S1x8x256x2048, .f32⟩
  | .hbm, ⟨89, _⟩ => ⟨S1x8x256x2048, .f32⟩
  | .hbm, ⟨90, _⟩ => ⟨S1x8x256x2048, .f32⟩
  | .hbm, ⟨91, _⟩ => ⟨S4x8x256x2048, .f32⟩
  | .hbm, ⟨92, _⟩ => ⟨S4x8x256x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩

abbrev nD : Nat := 1
abbrev τ : Topo := Topo.v7x

variable {F : FTy → Type} [FloatOps F]
-- ==== InProj.lean ====
abbrev S16384x1024 : Shape := ⟨2, ![16384, 1024]⟩
abbrev S4x2x1024 : Shape := ⟨3, ![4, 2, 1024]⟩
abbrev S4x1024x6560 : Shape := ⟨3, ![4, 1024, 6560]⟩
abbrev S4x256 : Shape := ⟨2, ![4, 256]⟩
abbrev S4x128 : Shape := ⟨2, ![4, 128]⟩
abbrev S4x256x768 : Shape := ⟨3, ![4, 256, 768]⟩
abbrev S4x128x1024 : Shape := ⟨3, ![4, 128, 1024]⟩
abbrev S3x16384x128 : Shape := ⟨3, ![3, 16384, 128]⟩
abbrev S4x1024x1920 : Shape := ⟨3, ![4, 1024, 1920]⟩
abbrev S_ : Shape := ⟨0, ![]⟩
abbrev S4x1024x64 : Shape := ⟨3, ![4, 1024, 64]⟩
abbrev S4x1024x32 : Shape := ⟨3, ![4, 1024, 32]⟩
abbrev S4x1024x1536 : Shape := ⟨3, ![4, 1024, 1536]⟩
abbrev S4x1024x3584 : Shape := ⟨3, ![4, 1024, 3584]⟩
abbrev S4x1024x3072 : Shape := ⟨3, ![4, 1024, 3072]⟩
abbrev S4x256x8x96 : Shape := ⟨4, ![4, 256, 8, 96]⟩
abbrev S4x256x8x128 : Shape := ⟨4, ![4, 256, 8, 128]⟩
abbrev S4x256x1024 : Shape := ⟨3, ![4, 256, 1024]⟩
abbrev S4x128x8x128 : Shape := ⟨4, ![4, 128, 8, 128]⟩
abbrev S4x128x8x64 : Shape := ⟨4, ![4, 128, 8, 64]⟩
abbrev S4x128x512 : Shape := ⟨3, ![4, 128, 512]⟩
abbrev S4x1x256 : Shape := ⟨3, ![4, 1, 256]⟩
abbrev S4x1x128 : Shape := ⟨3, ![4, 1, 128]⟩
abbrev S16384x256 : Shape := ⟨2, ![16384, 256]⟩
abbrev S16384x512 : Shape := ⟨2, ![16384, 512]⟩
abbrev S512x1024 : Shape := ⟨2, ![512, 1024]⟩
abbrev S1x2x1024 : Shape := ⟨3, ![1, 2, 1024]⟩
abbrev S1x1024x3584 : Shape := ⟨3, ![1, 1024, 3584]⟩
abbrev S1x1x256 : Shape := ⟨3, ![1, 1, 256]⟩
abbrev S1x1x128 : Shape := ⟨3, ![1, 1, 128]⟩
abbrev S1x256x1024 : Shape := ⟨3, ![1, 256, 1024]⟩
abbrev S1x128x1024 : Shape := ⟨3, ![1, 128, 1024]⟩
abbrev S1x128x512 : Shape := ⟨3, ![1, 128, 512]⟩
abbrev S3x512x128 : Shape := ⟨3, ![3, 512, 128]⟩
abbrev S512x256 : Shape := ⟨2, ![512, 256]⟩
abbrev S512x512 : Shape := ⟨2, ![512, 512]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x512x128 : Shape := ⟨3, ![1, 512, 128]⟩
abbrev S512x128 : Shape := ⟨2, ![512, 128]⟩
abbrev S1x1024x512 : Shape := ⟨3, ![1, 1024, 512]⟩
abbrev S1024x512 : Shape := ⟨2, ![1024, 512]⟩
abbrev S1x256 : Shape := ⟨2, ![1, 256]⟩
abbrev S256x1024 : Shape := ⟨2, ![256, 1024]⟩
abbrev S1x128 : Shape := ⟨2, ![1, 128]⟩
abbrev S128x1024 : Shape := ⟨2, ![128, 1024]⟩
abbrev S128x512 : Shape := ⟨2, ![128, 512]⟩

abbrev nBuf : Space → Nat
  | .hbm => 49
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S4x2x1024, .f32⟩
  | .hbm, ⟨2, _⟩ => ⟨S4x1024x6560, .f32⟩
  | .hbm, ⟨3, _⟩ => ⟨S4x256, .f32⟩
  | .hbm, ⟨4, _⟩ => ⟨S4x128, .f32⟩
  | .hbm, ⟨5, _⟩ => ⟨S4x256x768, .f32⟩
  | .hbm, ⟨6, _⟩ => ⟨S4x128x1024, .f32⟩
  | .hbm, ⟨7, _⟩ => ⟨S3x16384x128, .f32⟩
  | .hbm, ⟨8, _⟩ => ⟨S3x16384x128, .f32⟩
  | .hbm, ⟨9, _⟩ => ⟨S4x1024x1920, .f32⟩
  | .hbm, ⟨10, _⟩ => ⟨S4x1024x1920, .bf16⟩
  | .hbm, ⟨11, _⟩ => ⟨S_, .bf16⟩
  | .hbm, ⟨12, _⟩ => ⟨S4x1024x64, .bf16⟩
  | .hbm, ⟨13, _⟩ => ⟨S4x1024x32, .f32⟩
  | .hbm, ⟨14, _⟩ => ⟨S4x1024x32, .bf16⟩
  | .hbm, ⟨15, _⟩ => ⟨S_, .bf16⟩
  | .hbm, ⟨16, _⟩ => ⟨S4x1024x32, .bf16⟩
  | .hbm, ⟨17, _⟩ => ⟨S4x1024x1536, .f32⟩
  | .hbm, ⟨18, _⟩ => ⟨S4x1024x1536, .bf16⟩
  | .hbm, ⟨19, _⟩ => ⟨S4x1024x3584, .bf16⟩
  | .hbm, ⟨20, _⟩ => ⟨S4x1024x3072, .f32⟩
  | .hbm, ⟨21, _⟩ => ⟨S4x1024x3072, .bf16⟩
  | .hbm, ⟨22, _⟩ => ⟨S4x256x768, .bf16⟩
  | .hbm, ⟨23, _⟩ => ⟨S4x256x8x96, .bf16⟩
  | .hbm, ⟨24, _⟩ => ⟨S_, .i32⟩
  | .hbm, ⟨25, _⟩ => ⟨S_, .bf16⟩
  | .hbm, ⟨26, _⟩ => ⟨S4x256x8x128, .bf16⟩
  | .hbm, ⟨27, _⟩ => ⟨S4x256x1024, .bf16⟩
  | .hbm, ⟨28, _⟩ => ⟨S4x128x1024, .bf16⟩
  | .hbm, ⟨29, _⟩ => ⟨S4x128x8x128, .bf16⟩
  | .hbm, ⟨30, _⟩ => ⟨S4x128x8x64, .bf16⟩
  | .hbm, ⟨31, _⟩ => ⟨S_, .i32⟩
  | .hbm, ⟨32, _⟩ => ⟨S_, .bf16⟩
  | .hbm, ⟨33, _⟩ => ⟨S4x128x8x128, .bf16⟩
  | .hbm, ⟨34, _⟩ => ⟨S4x128x1024, .bf16⟩
  | .hbm, ⟨35, _⟩ => ⟨S4x128x8x64, .bf16⟩
  | .hbm, ⟨36, _⟩ => ⟨S4x128x512, .bf16⟩
  | .hbm, ⟨37, _⟩ => ⟨S4x1x256, .f32⟩
  | .hbm, ⟨38, _⟩ => ⟨S4x1x128, .f32⟩
  | .hbm, ⟨39, _⟩ => ⟨S16384x256, .bf16⟩
  | .hbm, ⟨40, _⟩ => ⟨S16384x256, .bf16⟩
  | .hbm, ⟨41, _⟩ => ⟨S16384x512, .bf16⟩
  | .hbm, ⟨42, _⟩ => ⟨S16384x512, .bf16⟩
  | .hbm, ⟨43, _⟩ => ⟨S16384x1024, .bf16⟩
  | .hbm, ⟨44, _⟩ => ⟨S16384x1024, .bf16⟩
  | .hbm, ⟨45, _⟩ => ⟨S16384x512, .bf16⟩
  | .hbm, ⟨46, _⟩ => ⟨S16384x512, .bf16⟩
  | .hbm, ⟨47, _⟩ => ⟨S16384x512, .bf16⟩
  | .hbm, ⟨48, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x2x1024, .f32⟩
  | .local _ .vmem, ⟨3, _⟩ => ⟨S1x1024x3584, .bf16⟩
  | .local _ .vmem, ⟨4, _⟩ => ⟨S1x1x256, .f32⟩
  | .local _ .vmem, ⟨5, _⟩ => ⟨S1x1x128, .f32⟩
  | .local _ .vmem, ⟨6, _⟩ => ⟨S1x256x1024, .bf16⟩
  | .local _ .vmem, ⟨7, _⟩ => ⟨S1x128x1024, .bf16⟩
  | .local _ .vmem, ⟨8, _⟩ => ⟨S1x128x512, .bf16⟩
  | .local _ .vmem, ⟨9, _⟩ => ⟨S3x512x128, .f32⟩
  | .local _ .vmem, ⟨10, _⟩ => ⟨S3x512x128, .f32⟩
  | .local _ .vmem, ⟨11, _⟩ => ⟨S3x512x128, .f32⟩
  | .local _ .vmem, ⟨12, _⟩ => ⟨S3x512x128, .f32⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev main_v24_3 : Ref sig .tc := ⟨.hbm, 42, rfl⟩
abbrev main_v24_4 : Ref sig .tc := ⟨.hbm, 43, rfl⟩
abbrev main_v24_5 : Ref sig .tc := ⟨.hbm, 44, rfl⟩
abbrev main_v24_6 : Ref sig .tc := ⟨.hbm, 45, rfl⟩
abbrev main_v24_7 : Ref sig .tc := ⟨.hbm, 46, rfl⟩
abbrev main_v24_8 : Ref sig .tc := ⟨.hbm, 47, rfl⟩
abbrev main_v24_9 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== InProjRefIdeal.lean ====
abbrev S16384x1024 : Shape := ⟨2, ![16384, 1024]⟩
abbrev S4x2x1024 : Shape := ⟨3, ![4, 2, 1024]⟩
abbrev S4x1024x6560 : Shape := ⟨3, ![4, 1024, 6560]⟩
abbrev S4x256 : Shape := ⟨2, ![4, 256]⟩
abbrev S4x128 : Shape := ⟨2, ![4, 128]⟩
abbrev S4x256x768 : Shape := ⟨3, ![4, 256, 768]⟩
abbrev S4x128x1024 : Shape := ⟨3, ![4, 128, 1024]⟩
abbrev S3x16384x128 : Shape := ⟨3, ![3, 16384, 128]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x6560 : Shape := ⟨3, ![1, 1024, 6560]⟩
abbrev S1024x6560 : Shape := ⟨2, ![1024, 6560]⟩
abbrev S16384x6560 : Shape := ⟨2, ![16384, 6560]⟩
abbrev S16384x256 : Shape := ⟨2, ![16384, 256]⟩
abbrev S16384x512 : Shape := ⟨2, ![16384, 512]⟩
abbrev S16384x160 : Shape := ⟨2, ![16384, 160]⟩
abbrev S16384x3072 : Shape := ⟨2, ![16384, 3072]⟩
abbrev S16384x128 : Shape := ⟨2, ![16384, 128]⟩
abbrev S1x128 : Shape := ⟨2, ![1, 128]⟩
abbrev S128 : Shape := ⟨1, ![128]⟩
abbrev S1x128x1024 : Shape := ⟨3, ![1, 128, 1024]⟩
abbrev S128x1024 : Shape := ⟨2, ![128, 1024]⟩
abbrev S16384x8x128 : Shape := ⟨3, ![16384, 8, 128]⟩
abbrev S16384x8x64 : Shape := ⟨3, ![16384, 8, 64]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x2x1024, .f32⟩
  | .hbm, ⟨2, _⟩ => ⟨S4x1024x6560, .f32⟩
  | .hbm, ⟨3, _⟩ => ⟨S4x256, .f32⟩
  | .hbm, ⟨4, _⟩ => ⟨S4x128, .f32⟩
  | .hbm, ⟨5, _⟩ => ⟨S4x256x768, .f32⟩
  | .hbm, ⟨6, _⟩ => ⟨S4x128x1024, .f32⟩
  | .hbm, ⟨7, _⟩ => ⟨S3x16384x128, .f32⟩
  | .hbm, ⟨8, _⟩ => ⟨S3x16384x128, .f32⟩
  | .hbm, ⟨9, _⟩ => ⟨S1x1x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1x1024x6560, .f32⟩
  | .hbm, ⟨28, _⟩ => ⟨S1024x6560, .f32⟩
  | .hbm, ⟨29, _⟩ => ⟨S16384x6560, .f32⟩
  | .hbm, ⟨30, _⟩ => ⟨S16384x256, .f32⟩
  | .hbm, ⟨31, _⟩ => ⟨S16384x256, .f32⟩
  | .hbm, ⟨32, _⟩ => ⟨S16384x512, .f32⟩
  | .hbm, ⟨33, _⟩ => ⟨S16384x512, .f32⟩
  | .hbm, ⟨34, _⟩ => ⟨S16384x256, .f32⟩
  | .hbm, ⟨35, _⟩ => ⟨S16384x160, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x3072, .f32⟩
  | .hbm, ⟨40, _⟩ => ⟨S16384x128, .f32⟩
  | .hbm, ⟨41, _⟩ => ⟨S1x128, .f32⟩
  | .hbm, ⟨42, _⟩ => ⟨S128, .f32⟩
  | .hbm, ⟨43, _⟩ => ⟨S16384x128, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x128, .f32⟩
  | .hbm, ⟨55, _⟩ => ⟨S16384x128, .f32⟩
  | .hbm, ⟨56, _⟩ => ⟨S1x128, .f32⟩
  | .hbm, ⟨57, _⟩ => ⟨S16384x128, .f32⟩
  | .hbm, ⟨58, _⟩ => ⟨S16384x128, .f32⟩
  | .hbm, ⟨59, _⟩ => ⟨S1x128x1024, .f32⟩
  | .hbm, ⟨60, _⟩ => ⟨S128x1024, .f32⟩
  | .hbm, ⟨61, _⟩ => ⟨S16384x1024, .f32⟩
  | .hbm, ⟨62, _⟩ => ⟨S16384x8x128, .f32⟩
  | .hbm, ⟨63, _⟩ => ⟨S16384x8x64, .f32⟩
  | .hbm, ⟨64, _⟩ => ⟨S16384x512, .f32⟩
  | .hbm, ⟨65, _⟩ => ⟨S16384x512, .bf16⟩
  | .hbm, ⟨66, _⟩ => ⟨S16384x512, .f32⟩
  | .hbm, ⟨67, _⟩ => ⟨S16384x512, .f32⟩
  | .hbm, ⟨68, _⟩ => ⟨S_, .f32⟩
  | .hbm, ⟨69, _⟩ => ⟨S16384x512, .f32⟩
  | .hbm, ⟨70, _⟩ => ⟨S16384x512, .f32⟩
  | .hbm, ⟨71, _⟩ => ⟨S_, .f32⟩
  | .hbm, ⟨72, _⟩ => ⟨S16384x512, .f32⟩
  | .hbm, ⟨73, _⟩ => ⟨S16384x512, .f32⟩
  | .hbm, ⟨74, _⟩ => ⟨S16384x512, .f32⟩
  | .hbm, ⟨75, _⟩ => ⟨S16384x512, .bf16⟩
  | .hbm, ⟨76, _⟩ => ⟨S16384x512, .bf16⟩
  | .hbm, ⟨77, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Proof.Rows.lean ====
/-
  The row functions the layer's token-wise calls share, on the extended reals: root-mean-square normalization of one
  row, and a row times a matrix. The kernel's blocks and the references' arrays are both read down to these.
-/
module

public import Idealize.ShloMosaic.Lib.Pointwise

@[expose] public section

set_option maxRecDepth 16384

noncomputable section

open Idealize.ShloMosaic Idealize.ShloMosaic.TcCoe

namespace Cert.Rows

/-- Root-mean-square normalization of a row of 1024 entries with gains `g`: each entry times the reciprocal square
    root of the mean square plus the small constant, times its gain. -/
def rms (x g : Fin 1024 → EReal) (j : Fin 1024) : EReal :=
  x j * Ideal.rsqrt (Ideal.div (∑ k : Fin 1024, x k * x k) (Ideal.ofBits .f32 0x44800000#32) + Ideal.ofBits .f32 0x358637BD#32) * g j

/-- A row times a matrix. -/
def vecMul {n p : ℕ} (x : Fin n → EReal) (w : Fin n → Fin p → EReal) (j : Fin p) : EReal :=
  ∑ k : Fin n, x k * w k j

end Cert.Rows
-- ==== Proof.Finite.lean ====
/-
  Finite extended reals: which of the layers' operations keep a value finite, and two facts about sums that need a
  finite factor or a zero tail.
-/
module

public import Idealize.ShloMosaic.Lib.Pointwise
public import proofs.«01_k».proof.Proof.Rows

@[expose] public section

set_option maxRecDepth 16384

noncomputable section

open Idealize.ShloMosaic

namespace Cert.Finite

/-- `x` is a real number. -/
def IsReal (x : EReal) : Prop := ∃ r : ℝ, x = (r : EReal)

/-- An extended real whose larger sign is below `+∞` is a real number. -/
theorem isReal_of_abs_lt {x : EReal} (h : max x (-x) < ⊤) : IsReal x := by
  induction x with
  | bot => simp at h
  | top => simp at h
  | coe r => exact ⟨r, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- A sum of the real numbers `g i` is the real number that their sum is. -/
theorem sum_coe {ι : Type*} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

theorem IsReal.sum {ι : Type*} {s : Finset ι} {f : ι → EReal} (h : ∀ i, IsReal (f i)) : IsReal (∑ i ∈ s, f i) := by
  choose g hg using h
  exact ⟨∑ i ∈ s, g i, by rw [← sum_coe]; exact Finset.sum_congr rfl fun i _ => hg i⟩

/-- A finite nonnegative factor distributes over a sum, whatever the summands are. -/
theorem sum_mul {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- A sum over `n` indices whose terms vanish from `lo + w` on: its first `lo` terms and its next `w`. -/
theorem sum_prefix {n lo w : ℕ} (h : lo + w ≤ n) (f : Fin n → EReal) (hf : ∀ k : Fin n, lo + w ≤ (k : ℕ) → f k = 0) :
    ∑ k, f k = ∑ k : Fin lo, f ⟨k, by omega⟩ + ∑ k : Fin w, f ⟨lo + k, by omega⟩ := by
  obtain ⟨r, rfl⟩ := Nat.exists_eq_add_of_le h
  rw [Fin.sum_univ_add, Fin.sum_univ_add, Finset.sum_eq_zero (s := (Finset.univ : Finset (Fin r)))
    (fun k _ => hf _ (by simp)), add_zero]
  rfl

/-- The reciprocal square root of a nonnegative real number plus a positive one is a real number. -/
theorem isReal_rsqrt {a e : ℝ} (ha : 0 ≤ a) (he : 0 < e) : IsReal (Ideal.rsqrt ((a : EReal) + (e : EReal))) := by
  have h : 0 < a + e := by linarith
  rw [← EReal.coe_add, Ideal.rsqrt_coe, if_neg h.le.not_gt, if_neg h.ne']
  exact ⟨_, rfl⟩

/-- The constants of the programs, as the extended reals that their words denote. -/
theorem const_1024 : Ideal.ofBits .f32 0x44800000#32 = ((1024 : ℝ) : EReal) := by
  simp [Ideal.ofBits, Ideal.ieee, -EReal.coe_mul]; norm_num

theorem const_sixteenth : Ideal.ofBits .f32 0x3D800000#32 = ((1 / 16 : ℝ) : EReal) := by
  simp [Ideal.ofBits, Ideal.ieee, -EReal.coe_mul]; norm_num

theorem const_neg_inf : Ideal.ofBits .f32 0xFF800000#32 = ⊥ := by
  simp [Ideal.ofBits, Ideal.ieee]

theorem const_inf : Ideal.ofBits .f32 0x7F800000#32 = ⊤ := by
  simp [Ideal.ofBits, Ideal.ieee]

/-- The constant under the square roots is a positive real number. -/
theorem const_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- The square of an extended real is not negative. -/
theorem square_nonneg (x : EReal) : 0 ≤ x * x := by
  induction x with
  | bot => simp
  | top => simp
  | coe r => rw [← EReal.coe_mul]; exact EReal.coe_nonneg.mpr (mul_self_nonneg r)

/-- The square of an extended real that is no real number is `+∞`. -/
theorem square_top {x : EReal} (h : ¬ IsReal x) : x * x = ⊤ := by
  induction x with
  | bot => simp
  | top => simp
  | coe r => exact absurd ⟨r, rfl⟩ h

/-- Every row normalizes to real numbers when the gains are real: where an entry is infinite the mean of the squares is
    `+∞`, its reciprocal square root zero, and so is every entry of the result. -/
theorem isReal_rms {x g : Fin 1024 → EReal} (hg : ∀ k, IsReal (g k)) (j : Fin 1024) :
    IsReal (Rows.rms x g j) := by
  obtain ⟨e, he, h⟩ := const_eps
  by_cases hx : ∀ k, IsReal (x k)
  · choose a ha using hx
    refine (IsReal.mul ⟨a j, ha j⟩ ?_).mul (hg j)
    have hs : ∑ k, x k * x k = ((∑ k, a k * a k : ℝ) : EReal) := by
      rw [← sum_coe]; exact Finset.sum_congr rfl fun k _ => by rw [ha k, EReal.coe_mul]
    rw [hs, const_1024, h, Ideal.div_coe (by norm_num), ← EReal.coe_mul]
    exact isReal_rsqrt (mul_nonneg (Finset.sum_nonneg fun k _ => mul_self_nonneg _) (by norm_num)) he
  · obtain ⟨k, hk⟩ := not_forall.mp hx
    have hs : ∑ k, x k * x k = ⊤ := top_le_iff.mp
      ((square_top hk).symm.le.trans (Finset.single_le_sum (f := fun k => x k * x k) (fun i _ => square_nonneg _) (Finset.mem_univ k)))
    refine IsReal.mul ?_ (hg j)
    rw [hs, const_1024, h, Ideal.div_coe (by norm_num), EReal.top_mul_coe_of_pos (by norm_num), EReal.top_add_coe]
    exact ⟨0, by simp⟩

end Cert.Finite
-- ==== Proof.Softmax.lean ====
/-
  The softmax of a row of extended reals: its weights, and the facts that let a program divide after the product with
  the values instead of before, or skip the positions that a mask of −∞ hides.
-/
module

public import Idealize.ShloMosaic.Lib.Pointwise
public import proofs.«01_k».proof.Proof.Finite

@[expose] public section

set_option maxRecDepth 16384

noncomputable section

open Idealize.ShloMosaic Cert.Finite

namespace Cert.Softmax

variable {n : ℕ}

/-- The largest score of a row. -/
def top (s : Fin n → EReal) : EReal := Finset.univ.fold max ⊥ fun k => s k

/-- The exponential of a score less the largest. -/
def part (s : Fin n → EReal) (k : Fin n) : EReal := Ideal.exp (s k - top s)

/-- The sum of the exponentials. -/
def total (s : Fin n → EReal) : EReal := ∑ k, part s k

/-- The softmax weight of position `k`. -/
def weight (s : Fin n → EReal) (k : Fin n) : EReal := Ideal.div (part s k) (total s)

/-- The values averaged with the softmax weights of the scores. -/
def attend (s v : Fin n → EReal) : EReal := ∑ k, v k * weight s k

theorem le_top (s : Fin n → EReal) (k : Fin n) : s k ≤ top s := Finset.le_sup (f := s) (Finset.mem_univ k)

/-- A row with a score above −∞ attains its largest score. -/
theorem exists_top (s : Fin n → EReal) (i : Fin n) : ∃ j, top s = s j := by
  obtain ⟨j, _, hj⟩ := Finset.exists_mem_eq_sup Finset.univ ⟨i, Finset.mem_univ i⟩ s
  exact ⟨j, hj⟩

/-- The scores a softmax is claimed for: none is `+∞`, and not all are `−∞`. -/
def Good (s : Fin n → EReal) : Prop := (∀ k, s k ≠ ⊤) ∧ ∃ k, s k ≠ ⊥

/-- The exponential of a score below `+∞` less a real number is a nonnegative real number. -/
theorem exp_sub_real {x : EReal} (hx : x ≠ ⊤) (M : ℝ) : ∃ p : ℝ, 0 ≤ p ∧ Ideal.exp (x - (M : EReal)) = (p : EReal) := by
  induction x with
  | bot => exact ⟨0, le_rfl, by simp⟩
  | top => exact absurd rfl hx
  | coe r => exact ⟨Real.exp (r - M), (Real.exp_pos _).le, by rw [← EReal.coe_sub, Ideal.exp_coe]⟩

/-- The largest of good scores is a real number. -/
theorem top_real {s : Fin n → EReal} (h : Good s) : IsReal (top s) := by
  obtain ⟨h1, i, hi⟩ := h
  obtain ⟨j, hj⟩ := exists_top s i
  have ht : top s ≠ ⊤ := hj ▸ h1 j
  have hb : top s ≠ ⊥ := fun e => hi (le_bot_iff.mp (e ▸ le_top s i))
  exact ⟨(top s).toReal, (EReal.coe_toReal ht hb).symm⟩

/-- The exponentials of good scores sum to a positive real number. -/
theorem total_real {s : Fin n → EReal} (h : Good s) : ∃ t : ℝ, 0 < t ∧ total s = (t : EReal) := by
  obtain ⟨M, hM⟩ := top_real h
  obtain ⟨j, hj⟩ := exists_top s h.2.choose
  have hp : ∀ k, ∃ p : ℝ, 0 ≤ p ∧ part s k = (p : EReal) := fun k => by
    unfold part; rw [hM]; exact exp_sub_real (h.1 k) M
  choose p hp0 hp using hp
  refine ⟨∑ k, p k, ?_, ?_⟩
  · refine Finset.sum_pos' (fun k _ => hp0 k) ⟨j, Finset.mem_univ j, ?_⟩
    have e : part s j = ((1 : ℝ) : EReal) := by
      unfold part; rw [hM, ← hj, hM, ← EReal.coe_sub, Ideal.exp_coe]; simp
    have : p j = 1 := EReal.coe_injective ((hp j).symm.trans e)
    rw [this]; exact one_pos
  · unfold total; rw [← sum_coe]; exact Finset.sum_congr rfl fun k _ => hp k

/-- Dividing by the total of good scores is multiplying by a nonnegative real number. -/
theorem div_total {s : Fin n → EReal} (h : Good s) : ∃ c : ℝ, 0 ≤ c ∧ ∀ x, Ideal.div x (total s) = x * (c : EReal) := by
  obtain ⟨t, ht, e⟩ := total_real h
  exact ⟨1 / t, by positivity, fun x => by rw [e, Ideal.div_coe ht.ne']⟩

/-- Dividing the product with the values by the total equals the product of the weights with the values. -/
theorem div_sum {s : Fin n → EReal} (h : Good s) (v : Fin n → EReal) :
    Ideal.div (∑ k, part s k * v k) (total s) = attend s v := by
  obtain ⟨c, hc, e⟩ := div_total h
  unfold attend weight
  rw [e, sum_mul _ _ hc]
  exact Finset.sum_congr rfl fun k _ => by rw [e, mul_right_comm, mul_comm]

/-- Scores that are real numbers are good. -/
theorem good_of_real {s : Fin n → EReal} (h : ∀ k, IsReal (s k)) (i : Fin n) : Good s :=
  ⟨fun k => (h k).ne_top, i, (h i).ne_bot⟩

/-- A position whose score is −∞ has exponential zero. -/
theorem part_of_bot {s : Fin n → EReal} {k : Fin n} (h : s k = ⊥) : part s k = 0 := by
  unfold part; rw [h]
  cases top s using EReal.rec <;> simp [sub_eq_add_neg]

/-- The largest of scores that are −∞ from `lo + w` on: the larger of the first `lo` and the next `w`. -/
theorem top_prefix {lo w : ℕ} (h : lo + w ≤ n) (s : Fin n → EReal) (hs : ∀ k : Fin n, lo + w ≤ (k : ℕ) → s k = ⊥) :
    top s = max (top fun k : Fin w => s ⟨lo + k, by omega⟩) (top fun k : Fin lo => s ⟨k, by omega⟩) := by
  refine le_antisymm (Finset.sup_le (f := s) fun k _ => ?_) (max_le (Finset.sup_le fun k _ => le_top s _) (Finset.sup_le fun k _ => le_top s _))
  by_cases h1 : (k : ℕ) < lo
  · exact le_max_of_le_right (le_top (fun k : Fin lo => s ⟨k, by omega⟩) ⟨k, h1⟩)
  by_cases h2 : (k : ℕ) < lo + w
  · refine le_max_of_le_left ?_
    have := le_top (fun k : Fin w => s ⟨lo + k, by omega⟩) ⟨k - lo, by omega⟩
    have e : (⟨lo + (k - lo), by omega⟩ : Fin n) = k := Fin.ext (by simp; omega)
    simpa only [e] using this
  · rw [hs k (by omega)]; exact bot_le

end Cert.Softmax
-- ==== Proof.Softmax.Stretches.lean ====
module

public import proofs.«01_k».proof.Proof.Softmax

@[expose] public section

set_option maxRecDepth 16384

noncomputable section

open Idealize.ShloMosaic Idealize.ShloMosaic.TcCoe Idealize.SL.Sem
open Cert.Finite

namespace Cert.Softmax

/-- A row's average formed from two stretches of positions, the exponentials taken less `M`: the sums of the exponentials times
the values, over the sum of the exponentials. -/
def average {w lo : ℕ} (sd vd : Fin w → EReal) (sp vp : Fin lo → EReal) (M : EReal) : EReal :=
  Ideal.div (∑ k, Ideal.exp (sd k - M) * vd k + ∑ k, Ideal.exp (sp k - M) * vp k)
    (∑ k, Ideal.exp (sd k - M) + ∑ k, Ideal.exp (sp k - M))

/-- A sum over the exponentials of scores that are −∞ from `lo + w` on: the next `w` positions and the first `lo`. -/
theorem sum_stretches {n lo w : ℕ} (h : lo + w ≤ n) (s u : Fin n → EReal) (hs : ∀ k : Fin n, lo + w ≤ (k : ℕ) → s k = ⊥) :
    ∑ k, part s k * u k = ∑ k : Fin w, part s ⟨lo + k, by omega⟩ * u ⟨lo + k, by omega⟩ + ∑ k : Fin lo, part s ⟨k, by omega⟩ * u ⟨k, by omega⟩ :=
  (sum_prefix h (fun k => part s k * u k) fun k hk => by rw [part_of_bot (hs k hk), zero_mul]).trans (add_comm _ _)

/-- The two stretches average the values as the softmax of the whole row does. -/
theorem average_eq {n lo w : ℕ} (h : lo + w ≤ n) (s v : Fin n → EReal) (hs : ∀ k : Fin n, lo + w ≤ (k : ℕ) → s k = ⊥) (hg : Good s)
    {sd vd : Fin w → EReal} {sp vp : Fin lo → EReal} (hsd : ∀ k, sd k = s ⟨lo + k, by omega⟩) (hvd : ∀ k, vd k = v ⟨lo + k, by omega⟩)
    (hsp : ∀ k, sp k = s ⟨k, by omega⟩) (hvp : ∀ k, vp k = v ⟨k, by omega⟩) :
    average sd vd sp vp (max (top sd) (top sp)) = attend s v := by
  obtain rfl : sd = fun k : Fin w => s ⟨lo + k, by omega⟩ := funext hsd
  obtain rfl : vd = fun k : Fin w => v ⟨lo + k, by omega⟩ := funext hvd
  obtain rfl : sp = fun k : Fin lo => s ⟨k, by omega⟩ := funext hsp
  obtain rfl : vp = fun k : Fin lo => v ⟨k, by omega⟩ := funext hvp
  rw [← top_prefix h s hs, ← div_sum hg, sum_stretches h s v hs]
  have ht := sum_stretches h s (fun _ => 1) hs
  simp only [mul_one] at ht
  unfold average total
  rw [ht]
  rfl

end Cert.Softmax
end
-- ==== Proof.Tile.Stages.lean ====
module

public import proofs.«01_k».proof.Proof.Softmax.Stretches
public import Idealize.ShloMosaic.Lib.MatmulPlain
public import Idealize.ShloMosaic.Lib.Pointwise

@[expose] public section

set_option maxRecDepth 16384

noncomputable section

open Idealize.ShloMosaic Idealize.ShloMosaic.TcCoe Idealize.SL.Sem
open Cert.Finite Cert.Softmax

namespace Cert.Tile

variable {W E : ℕ}

/-- The scores of 256 queries against `W` keys. -/
def products (q : FVec Ideal ⟨2, ![256, 128]⟩ .bf16) (k : FVec Ideal ⟨2, ![W, 128]⟩ .bf16) : FVec Ideal ⟨2, ![256, W]⟩ .f32 :=
  matmul (DotDims.transposedRhs 256 128 W) none q k (constant ⟨2, ![256, W]⟩ .f32 0x00000000#32)

/-- The values weighted. -/
def weighted (p : FVec Ideal ⟨2, ![256, W]⟩ .bf16) (v : FVec Ideal ⟨2, ![W, 128]⟩ .bf16) : FVec Ideal ⟨2, ![256, 128]⟩ .f32 :=
  matmul (DotDims.plain 256 W 128) none p v (constant ⟨2, ![256, 128]⟩ .f32 0x00000000#32)

/-- Each row's largest score. -/
def largest (s : FVec Ideal ⟨2, ![256, W]⟩ .f32) (h : Shape.Reduces ⟨2, ![256, W]⟩ [1] ⟨1, ![256]⟩) (hc : Shape.ShapeCasts ⟨1, ![256]⟩ ⟨2, ![256, 1]⟩) :
    FVec Ideal ⟨2, ![256, 1]⟩ .f32 :=
  shapeCast ⟨2, ![256, 1]⟩ (multiReduction .maximumf [1] ⟨1, ![256]⟩ s 0xFF800000#32 h (.inl rfl) rfl) hc

/-- Each row's sum. -/
def sums (s : FVec Ideal ⟨2, ![256, W]⟩ .f32) (h : Shape.Reduces ⟨2, ![256, W]⟩ [1] ⟨1, ![256]⟩) (hc : Shape.ShapeCasts ⟨1, ![256]⟩ ⟨2, ![256, 1]⟩) :
    FVec Ideal ⟨2, ![256, 1]⟩ .f32 :=
  shapeCast ⟨2, ![256, 1]⟩ (multiReduction .add [1] ⟨1, ![256]⟩ s 0x00000000#32 h (.inl rfl) rfl) hc

/-- The exponentials of the scores less one number a row. -/
def exponentials (s : FVec Ideal ⟨2, ![256, W]⟩ .f32) (m : FVec Ideal ⟨2, ![256, 1]⟩ .f32) (h : Shape.Broadcasts ⟨2, ![256, 1]⟩ ⟨2, ![256, W]⟩) :
    FVec Ideal ⟨2, ![256, W]⟩ .f32 :=
  exp (subf s (broadcastTo ⟨2, ![256, W]⟩ m h))

theorem products_at (q : FVec Ideal ⟨2, ![256, 128]⟩ .bf16) (k : FVec Ideal ⟨2, ![W, 128]⟩ .bf16) (r : Fin 256) (n : Fin W) :
    products q k (ix2 r n) = ∑ d : Fin 128, q (ix2 r d) * k (ix2 n d) := by
  refine (Ideal.matmul_transposedRhs_apply none q k _ r n).trans ?_
  pointwise []
  rfl

theorem weighted_at (p : FVec Ideal ⟨2, ![256, W]⟩ .bf16) (v : FVec Ideal ⟨2, ![W, 128]⟩ .bf16) (r : Fin 256) (e : Fin 128) :
    weighted p v (ix2 r e) = ∑ k : Fin W, p (ix2 r k) * v (ix2 k e) := by
  refine (Ideal.matmul_plain_apply none p v _ r e).trans ?_
  pointwise []
  rfl

theorem largest_at (s : FVec Ideal ⟨2, ![256, W]⟩ .f32) (h hc) (r : Fin 256) (z : Fin 1) : largest s h hc (ix2 r z) = top fun n => s (ix2 r n) := by
  pointwise [largest]
  rw [const_neg_inf]
  rfl

theorem sums_at (s : FVec Ideal ⟨2, ![256, W]⟩ .f32) (h hc) (r : Fin 256) (z : Fin 1) : sums s h hc (ix2 r z) = ∑ n : Fin W, s (ix2 r n) := by
  pointwise [sums]

theorem exponentials_at (s : FVec Ideal ⟨2, ![256, W]⟩ .f32) (m h) (r : Fin 256) (n : Fin W) :
    exponentials s m h (ix2 r n) = Ideal.exp (s (ix2 r n) - m (ix2 r 0)) := by
  pointwise [exponentials]

end Cert.Tile
end
-- ==== Proof.Tile.Heads.lean ====
module

public import proofs.«01_k».proof.Proof.Tile.Stages
public import Idealize.ShloMosaic.Lib.Pipeline.ValueKit.Geometry
public import Idealize.ShloMosaic.Lib.Pipeline.ValueKit.Tiles
public import Idealize.ShloMosaic.Lib.ValueLayout

@[expose] public section

set_option maxRecDepth 16384

noncomputable section

open Idealize.ShloMosaic Idealize.ShloMosaic.TcCoe Idealize.SL.Sem
open Cert.Finite Cert.Softmax

namespace Cert.Tile

variable {W : ℕ}

/-- One head of a tile that has `W` earlier positions: the scores of its own block carry the mask's bias; the scores of the two
stretches share their largest, and the sum of the two products is divided by the sum of the exponentials. -/
def late (q kd : FVec Ideal ⟨2, ![256, 128]⟩ .bf16) (kp : FVec Ideal ⟨2, ![W, 128]⟩ .bf16) (vd : FVec Ideal ⟨2, ![256, 128]⟩ .bf16)
    (vp : FVec Ideal ⟨2, ![W, 128]⟩ .bf16) (bias : FVec Ideal ⟨2, ![256, 256]⟩ .f32)
    (hr : Shape.Reduces ⟨2, ![256, 256]⟩ [1] ⟨1, ![256]⟩) (hrp : Shape.Reduces ⟨2, ![256, W]⟩ [1] ⟨1, ![256]⟩)
    (hc : Shape.ShapeCasts ⟨1, ![256]⟩ ⟨2, ![256, 1]⟩) (hb : Shape.Broadcasts ⟨2, ![256, 1]⟩ ⟨2, ![256, 256]⟩)
    (hbp : Shape.Broadcasts ⟨2, ![256, 1]⟩ ⟨2, ![256, W]⟩) (ho : Shape.Broadcasts ⟨2, ![256, 1]⟩ ⟨2, ![256, 128]⟩) (ht : FTy.bf16.bits < FTy.f32.bits) :
    FVec Ideal ⟨2, ![256, 128]⟩ .f32 :=
  let sd := addf (products q kd) bias
  let sp := products q kp
  let m := maximumf (largest sd hr hc) (largest sp hrp hc)
  let pd := exponentials sd m hb
  let pp := exponentials sp m hbp
  divf (addf (weighted (truncf .bf16 pd ht) vd) (weighted (truncf .bf16 pp ht) vp))
    (broadcastTo ⟨2, ![256, 128]⟩ (addf (sums pd hr hc) (sums pp hrp hc)) ho)

/-- One head of the first tile, which has no earlier positions. -/
def first (q kd : FVec Ideal ⟨2, ![256, 128]⟩ .bf16) (vd : FVec Ideal ⟨2, ![256, 128]⟩ .bf16) (bias : FVec Ideal ⟨2, ![256, 256]⟩ .f32)
    (hr : Shape.Reduces ⟨2, ![256, 256]⟩ [1] ⟨1, ![256]⟩) (hc : Shape.ShapeCasts ⟨1, ![256]⟩ ⟨2, ![256, 1]⟩)
    (hb : Shape.Broadcasts ⟨2, ![256, 1]⟩ ⟨2, ![256, 256]⟩) (ho : Shape.Broadcasts ⟨2, ![256, 1]⟩ ⟨2, ![256, 128]⟩) (ht : FTy.bf16.bits < FTy.f32.bits) :
    FVec Ideal ⟨2, ![256, 128]⟩ .f32 :=
  let sd := addf (products q kd) bias
  let pd := exponentials sd (largest sd hr hc) hb
  divf (weighted (truncf .bf16 pd ht) vd) (broadcastTo ⟨2, ![256, 128]⟩ (sums pd hr hc) ho)

/-- Two heads side by side: the lanes below 64 from the one, the others from the other. -/
def pair (lane : IVec ⟨2, ![256, 128]⟩ 32) (a b : FVec Ideal ⟨2, ![256, 128]⟩ .f32) (ht : FTy.bf16.bits < FTy.f32.bits)
    (hc : Shape.ShapeCasts ⟨2, ![256, 128]⟩ ⟨3, ![1, 256, 128]⟩) : FVec Ideal ⟨3, ![1, 256, 128]⟩ .bf16 :=
  shapeCast ⟨3, ![1, 256, 128]⟩ (truncf .bf16 (select (cmpi .slt lane (broadcast ⟨2, ![256, 128]⟩ 64#32)) a b) ht) hc

/-- A head of a late tile at an index: the average over its two stretches. -/
theorem late_at (q kd : FVec Ideal ⟨2, ![256, 128]⟩ .bf16) (kp : FVec Ideal ⟨2, ![W, 128]⟩ .bf16) (vd : FVec Ideal ⟨2, ![256, 128]⟩ .bf16)
    (vp : FVec Ideal ⟨2, ![W, 128]⟩ .bf16) (bias : FVec Ideal ⟨2, ![256, 256]⟩ .f32) (hr hrp hc hb hbp ho ht) (r : Fin 256) (e : Fin 128) :
    late q kd kp vd vp bias hr hrp hc hb hbp ho ht (ix2 r e)
      = average (fun k : Fin 256 => ∑ d : Fin 128, q (ix2 r d) * kd (ix2 k d) + bias (ix2 r k)) (fun k => vd (ix2 k e))
          (fun k : Fin W => ∑ d : Fin 128, q (ix2 r d) * kp (ix2 k d)) (fun k => vp (ix2 k e))
          (max (top fun k : Fin 256 => ∑ d : Fin 128, q (ix2 r d) * kd (ix2 k d) + bias (ix2 r k))
            (top fun k : Fin W => ∑ d : Fin 128, q (ix2 r d) * kp (ix2 k d))) := by
  have hd : ∀ k : Fin 256, addf (products q kd) bias (ix2 r k) = ∑ d : Fin 128, q (ix2 r d) * kd (ix2 k d) + bias (ix2 r k) :=
    fun k => congrArg (· + _) (products_at q kd r k)
  have hm : ∀ a b : FVec Ideal ⟨2, ![256, 1]⟩ .f32, maximumf a b (ix2 r 0) = max (a (ix2 r 0)) (b (ix2 r 0)) := fun a b => rfl
  have key : ∀ (a b : FVec Ideal ⟨2, ![256, 128]⟩ .f32) (t u : FVec Ideal ⟨2, ![256, 1]⟩ .f32),
      divf (addf a b) (broadcastTo ⟨2, ![256, 128]⟩ (addf t u) ho) (ix2 r e)
        = Ideal.div (a (ix2 r e) + b (ix2 r e)) (t (ix2 r 0) + u (ix2 r 0)) := fun a b t u => by pointwise []
  have cut : ∀ {V : ℕ} (p : FVec Ideal ⟨2, ![256, V]⟩ .f32) (k : Fin V), truncf .bf16 p ht (ix2 r k) = p (ix2 r k) := fun p k => rfl
  unfold late
  refine (key _ _ _ _).trans ?_
  simp only [weighted_at, sums_at, cut, exponentials_at, hm, largest_at, hd, products_at]
  rfl

/-- A head of the first tile at an index: the average over its stretch and no earlier positions. -/
theorem first_at (q kd : FVec Ideal ⟨2, ![256, 128]⟩ .bf16) (vd : FVec Ideal ⟨2, ![256, 128]⟩ .bf16)
    (bias : FVec Ideal ⟨2, ![256, 256]⟩ .f32) (hr hc hb ho ht) (r : Fin 256) (e : Fin 128) (u w : Fin 0 → EReal) :
    first q kd vd bias hr hc hb ho ht (ix2 r e)
      = average (fun k : Fin 256 => ∑ d : Fin 128, q (ix2 r d) * kd (ix2 k d) + bias (ix2 r k)) (fun k => vd (ix2 k e)) u w
          (max (top fun k : Fin 256 => ∑ d : Fin 128, q (ix2 r d) * kd (ix2 k d) + bias (ix2 r k)) (top u)) := by
  have hd : ∀ k : Fin 256, addf (products q kd) bias (ix2 r k) = ∑ d : Fin 128, q (ix2 r d) * kd (ix2 k d) + bias (ix2 r k) :=
    fun k => congrArg (· + _) (products_at q kd r k)
  have key : ∀ (a : FVec Ideal ⟨2, ![256, 128]⟩ .f32) (t : FVec Ideal ⟨2, ![256, 1]⟩ .f32),
      divf a (broadcastTo ⟨2, ![256, 128]⟩ t ho) (ix2 r e) = Ideal.div (a (ix2 r e)) (t (ix2 r 0)) := fun a t => by pointwise []
  have cut : ∀ {V : ℕ} (p : FVec Ideal ⟨2, ![256, V]⟩ .f32) (k : Fin V), truncf .bf16 p ht (ix2 r k) = p (ix2 r k) := fun p k => rfl
  unfold first
  refine (key _ _).trans ?_
  simp only [weighted_at, sums_at, cut, exponentials_at, largest_at, hd]
  unfold average
  rw [Finset.univ_eq_empty (α := Fin 0), Finset.sum_empty, Finset.sum_empty, add_zero, add_zero,
    show top u = ⊥ from rfl, max_bot_right]

/-- The lanes below 64, by the comparison of their numbers. -/
theorem lane_lt : ∀ e : Fin 128, IntOp.cmpi .slt (BitVec.ofNat 32 e) 64#32 = if (e : ℕ) < 64 then 1#1 else 0#1 := by decide +kernel

/-- Two heads side by side at an index. -/
theorem pair_at (lane : IVec ⟨2, ![256, 128]⟩ 32) (a b : FVec Ideal ⟨2, ![256, 128]⟩ .f32) (ht hc) (z : Fin 1) (r : Fin 256) (e : Fin 128)
    (hl : lane (ix2 r e) = BitVec.ofNat 32 e) :
    pair lane a b ht hc (ix3 z r e) = if (e : ℕ) < 64 then a (ix2 r e) else b (ix2 r e) := by
  obtain rfl : z = 0 := Subsingleton.elim _ _
  pointwise [pair]
  rw [hl, lane_lt]
  split <;> rfl

/-- A one-deep block as a matrix, at an index. -/
theorem matrix_at {n : ℕ} (y : Vec Ideal ⟨3, ![1, n, 128]⟩ .bf16) (hc) (r : Fin n) (d : Fin 128) :
    shapeCast ⟨2, ![n, 128]⟩ y hc (ix2 r d) = y (ix3 0 r d) :=
  congrArg y (ValueIdx.reshapeEquiv_ix2_1ab hc r d)

/-- A stretch of a block's rows as a matrix, at an index. -/
theorem rows_at {C n : ℕ} (x : Vec Ideal ⟨3, ![1, 2048, C]⟩ .bf16) (a o : ℕ) (inb) (hc) (r : Fin n) (d : Fin 128) (ha : a + n ≤ 2048) (ho : o + 128 ≤ C) :
    shapeCast ⟨2, ![n, 128]⟩ (View.ld (Val := Elt Ideal) x (Rect.unit (s := ⟨3, ![1, 2048, C]⟩) ![0, a, o] ![1, n, 128] inb)) hc (ix2 r d)
      = x (ix3 0 ⟨a + r, by omega⟩ ⟨o + d, by omega⟩) := by
  refine (matrix_at (View.ld (Val := Elt Ideal) x (Rect.unit (s := ⟨3, ![1, 2048, C]⟩) ![0, a, o] ![1, n, 128] inb)) hc r d).trans ?_
  refine congrArg x (funext fun i => Fin.ext ?_)
  fin_cases i <;> simp

/-- A stretch of rows of a block read as a matrix, at an index. -/
theorem stretch_at {C n : ℕ} (x : Vec Ideal ⟨3, ![1, 2048, C]⟩ .bf16) (a o : ℕ) (inb) (hc) (inb') (r : Fin n) (d : Fin 128) (ha : a + n ≤ 2048) (ho : o + 128 ≤ C) :
    View.ld (Val := Elt Ideal) (e' := .bf16) (shapeCast ⟨2, ![2048, 128]⟩ (View.ld (Val := Elt Ideal) x (Rect.unit (s := ⟨3, ![1, 2048, C]⟩) ![0, 0, o] ![1, 2048, 128] inb)) hc)
        (Rect.unit (s := ⟨2, ![2048, 128]⟩) ![a, 0] ![n, 128] inb') (ix2 r d)
      = x (ix3 0 ⟨a + r, by omega⟩ ⟨o + d, by omega⟩) := by
  have hi : (Rect.unit (s := ⟨2, ![2048, 128]⟩) ![a, 0] ![n, 128] inb').idx (ix2 r d) = ix2 (⟨a + r, by omega⟩ : Fin 2048) d := by
    refine funext fun i => Fin.ext ?_
    fin_cases i <;> simp
  refine (congrArg _ hi).trans ((rows_at x 0 o inb hc ⟨a + r, by omega⟩ d (by omega) ho).trans ?_)
  blk_ext

end Cert.Tile
end
-- ==== Proof.Mla.Heads.lean ====
module

public import proofs.«01_k».proof.Proof.Tile.Heads

@[expose] public section

set_option maxRecDepth 16384

noncomputable section

open Idealize.ShloMosaic Idealize.ShloMosaic.TcCoe Idealize.SL.Sem
open Cert.Finite Cert.Softmax

namespace Cert.Mla

/-- The score of query `p` against key `n`: their product where the key's group of 64 positions isn't after the query's, −∞ elsewhere. -/
def score (q k : Fin 2048 → Fin 128 → EReal) (p n : Fin 2048) : EReal :=
  if (n : ℕ) / 64 ≤ (p : ℕ) / 64 then ∑ d, q p d * k n d else ⊥

/-- One lane of one head's result at position `p`: the softmax of the scores averages the values. -/
def head (q k : Fin 2048 → Fin 128 → EReal) (v : Fin 2048 → EReal) (p : Fin 2048) : EReal :=
  attend (score q k p) v

/-- The scores of real queries and keys have a softmax. -/
theorem good {q k : Fin 2048 → Fin 128 → EReal} (hq : ∀ p d, IsReal (q p d)) (hk : ∀ p d, IsReal (k p d)) (p : Fin 2048) :
    Good (score q k p) := by
  have hs : ∀ n, IsReal (∑ d, q p d * k n d) := fun n => IsReal.sum fun d => (hq p d).mul (hk n d)
  refine ⟨fun n => ?_, p, ?_⟩
  · unfold score
    split
    · exact (hs n).ne_top
    · exact bot_ne_top
  · unfold score
    rw [if_pos le_rfl]
    exact (hs p).ne_bot

/-- The mask's bias within a tile. -/
def Bias (b : FVec Ideal ⟨2, ![256, 256]⟩ .f32) : Prop :=
  ∀ r k : Fin 256, b (ix2 r k) = if (k : ℕ) / 64 ≤ (r : ℕ) / 64 then 0 else ⊥

/-- The scores within a tile, the mask's bias added. -/
theorem near {q k : Fin 2048 → Fin 128 → EReal} (hq : ∀ p d, IsReal (q p d)) (hk : ∀ p d, IsReal (k p d)) {lo : ℕ} (hlo : lo + 256 ≤ 2048)
    (h64 : lo % 64 = 0) {b : FVec Ideal ⟨2, ![256, 256]⟩ .f32} (hb : Bias b) (r n : Fin 256) :
    ∑ d : Fin 128, q ⟨lo + r, by omega⟩ d * k ⟨lo + n, by omega⟩ d + b (ix2 r n) = score q k ⟨lo + r, by omega⟩ ⟨lo + n, by omega⟩ := by
  rw [hb]
  unfold score
  by_cases h : (n : ℕ) / 64 ≤ (r : ℕ) / 64
  · rw [if_pos h, if_pos (by show (lo + n) / 64 ≤ (lo + r) / 64; omega), add_zero]
  · rw [if_neg h, if_neg (by show ¬ (lo + n) / 64 ≤ (lo + r) / 64; omega), EReal.add_bot]

/-- The scores against the positions before a tile. -/
theorem past {q k : Fin 2048 → Fin 128 → EReal} {lo : ℕ} (hlo : lo + 256 ≤ 2048) (r : Fin 256) (n : Fin lo) :
    ∑ d : Fin 128, q ⟨lo + r, by omega⟩ d * k ⟨n, by omega⟩ d = score q k ⟨lo + r, by omega⟩ ⟨n, by omega⟩ := by
  unfold score
  rw [if_pos (by show (n : ℕ) / 64 ≤ (lo + r) / 64; omega)]

/-- The positions after a tile are masked. -/
theorem after {q k : Fin 2048 → Fin 128 → EReal} {lo : ℕ} (hlo : lo + 256 ≤ 2048) (h64 : lo % 64 = 0) (hm : lo % 256 = 0) (r : Fin 256) (n : Fin 2048)
    (h : lo + 256 ≤ (n : ℕ)) : score q k ⟨lo + r, by omega⟩ n = ⊥ := by
  unfold score
  rw [if_neg (by show ¬ (n : ℕ) / 64 ≤ (lo + r) / 64; omega)]

/-- A head of a late tile is that head's result. -/
theorem late_eq {q k : Fin 2048 → Fin 128 → EReal} (v : Fin 2048 → EReal) (hq : ∀ p d, IsReal (q p d)) (hk : ∀ p d, IsReal (k p d))
    (lo : ℕ) (hlo : lo + 256 ≤ 2048) (hm : lo % 256 = 0)
    {tq tkd : FVec Ideal ⟨2, ![256, 128]⟩ .bf16} {tkp : FVec Ideal ⟨2, ![lo, 128]⟩ .bf16} {tvd : FVec Ideal ⟨2, ![256, 128]⟩ .bf16}
    {tvp : FVec Ideal ⟨2, ![lo, 128]⟩ .bf16} {b : FVec Ideal ⟨2, ![256, 256]⟩ .f32} (hb : Bias b) (e : Fin 128)
    (hr hrp hc hbr hbp ho ht)
    (h0 : ∀ (r : Fin 256) d, tq (ix2 r d) = q ⟨lo + r, by omega⟩ d) (h1 : ∀ (r : Fin 256) d, tkd (ix2 r d) = k ⟨lo + r, by omega⟩ d)
    (h2 : ∀ (r : Fin lo) d, tkp (ix2 r d) = k ⟨r, by omega⟩ d) (h3 : ∀ r : Fin 256, tvd (ix2 r e) = v ⟨lo + r, by omega⟩)
    (h4 : ∀ r : Fin lo, tvp (ix2 r e) = v ⟨r, by omega⟩) (r : Fin 256) :
    Tile.late tq tkd tkp tvd tvp b hr hrp hc hbr hbp ho ht (ix2 r e) = head q k v ⟨lo + r, by omega⟩ := by
  refine (Tile.late_at _ _ _ _ _ _ _ _ _ _ _ _ _ r e).trans ?_
  simp only [h0, h1, h2]
  exact average_eq hlo _ _ (after hlo (by omega) hm r) (good hq hk _) (near hq hk hlo (by omega) hb r) h3 (past hlo r) h4

/-- A head of the first tile is that head's result. -/
theorem first_eq {q k : Fin 2048 → Fin 128 → EReal} (v : Fin 2048 → EReal) (hq : ∀ p d, IsReal (q p d)) (hk : ∀ p d, IsReal (k p d))
    {tq tkd tvd : FVec Ideal ⟨2, ![256, 128]⟩ .bf16} {b : FVec Ideal ⟨2, ![256, 256]⟩ .f32} (hb : Bias b) (e : Fin 128)
    (hr hc hbr ho ht)
    (h0 : ∀ (r : Fin 256) d, tq (ix2 r d) = q ⟨0 + r, by omega⟩ d) (h1 : ∀ (r : Fin 256) d, tkd (ix2 r d) = k ⟨0 + r, by omega⟩ d)
    (h3 : ∀ r : Fin 256, tvd (ix2 r e) = v ⟨0 + r, by omega⟩) (r : Fin 256) :
    Tile.first tq tkd tvd b hr hc hbr ho ht (ix2 r e) = head q k v ⟨0 + r, by omega⟩ := by
  refine (Tile.first_at _ _ _ _ _ _ _ _ _ r e (fun n => n.elim0) (fun n => n.elim0)).trans ?_
  simp only [h0, h1]
  exact average_eq (lo := 0) (by omega) _ _ (after (lo := 0) (by omega) rfl rfl r) (good hq hk _) (near hq hk (by omega) rfl hb r) h3
    (fun n => n.elim0) (fun n => n.elim0)

/-- The lanes of one of the two heads of a block. -/
def lanes (x : Vec Ideal ⟨3, ![1, 2048, 256]⟩ .bf16) (o : ℕ) (ho : o + 128 ≤ 256) (p : Fin 2048) (d : Fin 128) : EReal :=
  x (ix3 0 p ⟨o + d, by omega⟩)

/-- What a grid step leaves in its block of the result: lanes below 64 are of the block's one head, the others of its other head. -/
def block (x0 x1 : Vec Ideal ⟨3, ![1, 2048, 256]⟩ .bf16) (x2 : Vec Ideal ⟨3, ![1, 2048, 128]⟩ .bf16) (p : Fin 2048) (e : Fin 128) : EReal :=
  if (e : ℕ) < 64 then head (lanes x0 0 (by omega)) (lanes x1 0 (by omega)) (fun n => x2 (ix3 0 n e)) p
  else head (lanes x0 128 (by omega)) (lanes x1 128 (by omega)) (fun n => x2 (ix3 0 n e)) p

/-- The result of the layer's latent attention at a batch entry, a position and a lane: the lane's head has 128 lanes of the queries
and keys and 64 of the values. -/
def at3 (q k : FVec Ideal ⟨3, ![8, 2048, 1024]⟩ .bf16) (v : FVec Ideal ⟨3, ![8, 2048, 512]⟩ .bf16) (b : Fin 8) (p : Fin 2048) (j : Fin 512) : EReal :=
  head (fun p d => q (ix3 b p ⟨(j : ℕ) / 64 * 128 + d, by omega⟩)) (fun p d => k (ix3 b p ⟨(j : ℕ) / 64 * 128 + d, by omega⟩))
    (fun n => v (ix3 b n j)) p

/-- The whole result of the latent attention. -/
def whole (q k : FVec Ideal ⟨3, ![8, 2048, 1024]⟩ .bf16) (v : FVec Ideal ⟨3, ![8, 2048, 512]⟩ .bf16) : FVec Ideal ⟨3, ![8, 2048, 512]⟩ .bf16 :=
  fun i => at3 q k v (i 0) (i 1) (i 2)

end Cert.Mla
end
-- ==== Proof.Mla.Tiles.lean ====
module

public import proofs.«01_k».proof.Proof.Mla.Heads
public import proofs.«01_k».proof.Proof.Gen.MlaIdeal.Frame

@[expose] public section

set_option maxRecDepth 16384

noncomputable section

open Idealize.ShloMosaic Idealize.ShloMosaic.TcCoe Idealize.SL.Sem
open Cert.Finite Cert.Softmax Cert.MlaIdeal Cert.MlaIdeal.Gen

namespace Cert.Mla

/-- A number below 256, its groups of 64. -/
theorem group : ∀ r : Fin 256, IntOp.shrsi .vector (BitVec.ofNat 32 r) 6#32 = BitVec.ofNat 32 ((r : ℕ) / 64) := by decide +kernel

/-- Comparing two groups. -/
theorem group_le : ∀ a b : Fin 4, IntOp.cmpi .sle (BitVec.ofNat 32 a) (BitVec.ofNat 32 b) = if (a : ℕ) ≤ (b : ℕ) then 1#1 else 0#1 := by
  decide +kernel

/-- The mask that the kernel adds: zero where the key's group isn't after the query's, the named −∞ elsewhere. -/
theorem bias (x0 x1 : Vec Ideal S1x2048x256 .bf16) (x2 : Vec Ideal S1x2048x128 .bf16) : Bias (k0_pay90 x0 x1 x2) := fun r k => by
  pointwise [k0_pay90, k0_pay2]
  rw [group, group, group_le ⟨(k : ℕ) / 64, by omega⟩ ⟨(r : ℕ) / 64, by omega⟩]
  rw [IdealRules.named_const.ideal_named_scalar _ _ _ _ rfl]
  dsimp only
  split <;> rfl

/-- The lane numbers. -/
theorem lane (x0 x1 : Vec Ideal S1x2048x256 .bf16) (x2 : Vec Ideal S1x2048x128 .bf16) (r : Fin 256) (e : Fin 128) :
    k0_pay89 x0 x1 x2 (ix2 r e) = BitVec.ofNat 32 e := by
  pointwise [k0_pay89]

/-- A late tile's two heads are the block's result there. -/
theorem late_tile (x0 x1 : Vec Ideal S1x2048x256 .bf16) (x2 : Vec Ideal S1x2048x128 .bf16) (hq : ∀ i, IsReal (x0 i)) (hk : ∀ i, IsReal (x1 i))
    (lo : ℕ) (hlo : lo + 256 ≤ 2048) (hm : lo % 256 = 0) (hr hrp hc hbr hbp ho ht)
    (i0 i1 i2 i3 i4 i5 i6 i7 i8 i9) (c0 c1 c2 c3 c4 c5) (z : Fin 1) (r : Fin 256) (e : Fin 128) :
    Tile.pair (k0_pay89 x0 x1 x2)
        (Tile.late (W := lo) (shapeCast S256x128 (View.ld (Val := Elt Ideal) x0 (Rect.unit (s := S1x2048x256) ![0, lo, 0] ![1, 256, 128] i0)) c0)
          (View.ld (Val := Elt Ideal) (e' := .bf16) (shapeCast S2048x128 (View.ld (Val := Elt Ideal) x1 (Rect.unit (s := S1x2048x256) ![0, 0, 0] ![1, 2048, 128] i1)) c1)
            (Rect.unit (s := S2048x128) ![lo, 0] ![256, 128] i2))
          (View.ld (Val := Elt Ideal) (e' := .bf16) (shapeCast S2048x128 (View.ld (Val := Elt Ideal) x1 (Rect.unit (s := S1x2048x256) ![0, 0, 0] ![1, 2048, 128] i3)) c1)
            (Rect.unit (s := S2048x128) ![0, 0] ![lo, 128] i4))
          (shapeCast S256x128 (View.ld (Val := Elt Ideal) x2 (Rect.unit (s := S1x2048x128) ![0, lo, 0] ![1, 256, 128] i5)) c2)
          (shapeCast ⟨2, ![lo, 128]⟩ (View.ld (Val := Elt Ideal) x2 (Rect.unit (s := S1x2048x128) ![0, 0, 0] ![1, lo, 128] i6)) c3)
          (k0_pay90 x0 x1 x2) hr hrp hc hbr hbp ho ht)
        (Tile.late (W := lo) (shapeCast S256x128 (View.ld (Val := Elt Ideal) x0 (Rect.unit (s := S1x2048x256) ![0, lo, 128] ![1, 256, 128] i7)) c0)
          (View.ld (Val := Elt Ideal) (e' := .bf16) (shapeCast S2048x128 (View.ld (Val := Elt Ideal) x1 (Rect.unit (s := S1x2048x256) ![0, 0, 128] ![1, 2048, 128] i8)) c1)
            (Rect.unit (s := S2048x128) ![lo, 0] ![256, 128] i2))
          (View.ld (Val := Elt Ideal) (e' := .bf16) (shapeCast S2048x128 (View.ld (Val := Elt Ideal) x1 (Rect.unit (s := S1x2048x256) ![0, 0, 128] ![1, 2048, 128] i9)) c1)
            (Rect.unit (s := S2048x128) ![0, 0] ![lo, 128] i4))
          (shapeCast S256x128 (View.ld (Val := Elt Ideal) x2 (Rect.unit (s := S1x2048x128) ![0, lo, 0] ![1, 256, 128] i5)) c2)
          (shapeCast ⟨2, ![lo, 128]⟩ (View.ld (Val := Elt Ideal) x2 (Rect.unit (s := S1x2048x128) ![0, 0, 0] ![1, lo, 128] i6)) c3)
          (k0_pay90 x0 x1 x2) hr hrp hc hbr hbp ho ht) c4 c5 (ix3 z r e)
      = block x0 x1 x2 ⟨lo + r, by omega⟩ e := by
  refine (Tile.pair_at _ _ _ _ _ z r e (lane x0 x1 x2 r e)).trans ?_
  have hv (n : ℕ) (r : Fin n) (h : 0 + n ≤ 2048) : x2 (ix3 0 (⟨0 + r, by omega⟩ : Fin 2048) (⟨0 + e, by omega⟩ : Fin 128)) = x2 (ix3 0 ⟨r, by omega⟩ e) := by
    simp only [Nat.zero_add]
  unfold block
  refine if_congr Iff.rfl ?_ ?_
  all_goals
    refine late_eq (fun n => x2 (ix3 0 n e)) (fun _ _ => hq _) (fun _ _ => hk _) lo hlo hm (bias x0 x1 x2) e _ _ _ _ _ _ _
      (fun r d => Tile.rows_at x0 lo _ _ _ r d hlo (by omega)) (fun r d => Tile.stretch_at x1 lo _ _ _ _ r d hlo (by omega))
      (fun n d => (Tile.stretch_at x1 0 _ _ _ _ n d (by omega) (by omega)).trans ?_)
      (fun r => (Tile.rows_at x2 lo 0 _ _ r e hlo (by omega)).trans ?_)
      (fun n => (Tile.rows_at x2 0 0 _ _ n e (by omega) (by omega)).trans (hv _ _ (by omega))) r
    · simp only [Nat.zero_add, lanes]
    · simp only [Nat.zero_add]

/-- The first tile's two heads are the block's result there. -/
theorem first_tile (x0 x1 : Vec Ideal S1x2048x256 .bf16) (x2 : Vec Ideal S1x2048x128 .bf16) (hq : ∀ i, IsReal (x0 i)) (hk : ∀ i, IsReal (x1 i))
    (hr hc hbr ho ht) (i0 i1 i2 i5 i7 i8) (c0 c1 c2 c4 c5) (z : Fin 1) (r : Fin 256) (e : Fin 128) :
    Tile.pair (k0_pay89 x0 x1 x2)
        (Tile.first (shapeCast S256x128 (View.ld (Val := Elt Ideal) x0 (Rect.unit (s := S1x2048x256) ![0, 0, 0] ![1, 256, 128] i0)) c0)
          (View.ld (Val := Elt Ideal) (e' := .bf16) (shapeCast S2048x128 (View.ld (Val := Elt Ideal) x1 (Rect.unit (s := S1x2048x256) ![0, 0, 0] ![1, 2048, 128] i1)) c1)
            (Rect.unit (s := S2048x128) ![0, 0] ![256, 128] i2))
          (shapeCast S256x128 (View.ld (Val := Elt Ideal) x2 (Rect.unit (s := S1x2048x128) ![0, 0, 0] ![1, 256, 128] i5)) c2)
          (k0_pay90 x0 x1 x2) hr hc hbr ho ht)
        (Tile.first (shapeCast S256x128 (View.ld (Val := Elt Ideal) x0 (Rect.unit (s := S1x2048x256) ![0, 0, 128] ![1, 256, 128] i7)) c0)
          (View.ld (Val := Elt Ideal) (e' := .bf16) (shapeCast S2048x128 (View.ld (Val := Elt Ideal) x1 (Rect.unit (s := S1x2048x256) ![0, 0, 128] ![1, 2048, 128] i8)) c1)
            (Rect.unit (s := S2048x128) ![0, 0] ![256, 128] i2))
          (shapeCast S256x128 (View.ld (Val := Elt Ideal) x2 (Rect.unit (s := S1x2048x128) ![0, 0, 0] ![1, 256, 128] i5)) c2)
          (k0_pay90 x0 x1 x2) hr hc hbr ho ht) c4 c5 (ix3 z r e)
      = block x0 x1 x2 ⟨0 + r, by omega⟩ e := by
  refine (Tile.pair_at _ _ _ _ _ z r e (lane x0 x1 x2 r e)).trans ?_
  unfold block
  refine if_congr Iff.rfl ?_ ?_
  all_goals
    refine first_eq (fun n => x2 (ix3 0 n e)) (fun _ _ => hq _) (fun _ _ => hk _) (bias x0 x1 x2) e _ _ _ _ _
      (fun r d => Tile.rows_at x0 0 _ _ _ r d (by omega) (by omega)) (fun r d => Tile.stretch_at x1 0 _ _ _ _ r d (by omega) (by omega))
      (fun r => (Tile.rows_at x2 0 0 _ _ r e (by omega) (by omega)).trans ?_) r
    simp only [Nat.zero_add]

end Cert.Mla
end
-- ==== Proof.Mla.Block.lean ====
module

public import proofs.«01_k».proof.Proof.Mla.Tiles

@[expose] public section

set_option maxRecDepth 16384

noncomputable section

open Idealize.ShloMosaic Idealize.ShloMosaic.TcCoe Idealize.SL.Sem
open Cert.Finite Cert.Softmax Cert.MlaIdeal Cert.MlaIdeal.Gen

namespace Cert.Mla

/-- What a grid step leaves at an index of its block of the result. -/
theorem out_at (a b : Vec Ideal S1x2048x256 .bf16) (v : Vec Ideal S1x2048x128 .bf16) (hq : ∀ i, IsReal (a i)) (hk : ∀ i, IsReal (b i))
    (z : Fin 1) (p : Fin 2048) (e : Fin 128) : out0_3 (F := Ideal) a b v (ix3 z p e) = block a b v p e := by
  unfold out0_3
  canon_tiles x h
  all_goals
    idx_vars x
    obtain rfl : e = x2 := Fin.ext h2
  · rw [show p = ⟨1792 + x1, Nat.add_lt_of_lt_sub (by omega)⟩ from Fin.ext h1]
    open_payloads
    exact late_tile a b v hq hk 1792 (by omega) rfl _ _ _ _ _ _ _ _ _ _ _ _ _ _ _ _ _ _ _ _ _ _ _ x0 x1 e
  · rw [show p = ⟨1536 + x1, Nat.add_lt_of_lt_sub (by omega)⟩ from Fin.ext h1]
    open_payloads
    exact late_tile a b v hq hk 1536 (by omega) rfl _ _ _ _ _ _ _ _ _ _ _ _ _ _ _ _ _ _ _ _ _ _ _ x0 x1 e
  · rw [show p = ⟨1280 + x1, Nat.add_lt_of_lt_sub (by omega)⟩ from Fin.ext h1]
    open_payloads
    exact late_tile a b v hq hk 1280 (by omega) rfl _ _ _ _ _ _ _ _ _ _ _ _ _ _ _ _ _ _ _ _ _ _ _ x0 x1 e
  · rw [show p = ⟨1024 + x1, Nat.add_lt_of_lt_sub (by omega)⟩ from Fin.ext h1]
    open_payloads
    exact late_tile a b v hq hk 1024 (by omega) rfl _ _ _ _ _ _ _ _ _ _ _ _ _ _ _ _ _ _ _ _ _ _ _ x0 x1 e
  · rw [show p = ⟨768 + x1, Nat.add_lt_of_lt_sub (by omega)⟩ from Fin.ext h1]
    open_payloads
    exact late_tile a b v hq hk 768 (by omega) rfl _ _ _ _ _ _ _ _ _ _ _ _ _ _ _ _ _ _ _ _ _ _ _ x0 x1 e
  · rw [show p = ⟨512 + x1, Nat.add_lt_of_lt_sub (by omega)⟩ from Fin.ext h1]
    open_payloads
    exact late_tile a b v hq hk 512 (by omega) rfl _ _ _ _ _ _ _ _ _ _ _ _ _ _ _ _ _ _ _ _ _ _ _ x0 x1 e
  · rw [show p = ⟨256 + x1, Nat.add_lt_of_lt_sub (by omega)⟩ from Fin.ext h1]
    open_payloads
    exact late_tile a b v hq hk 256 (by omega) rfl _ _ _ _ _ _ _ _ _ _ _ _ _ _ _ _ _ _ _ _ _ _ _ x0 x1 e
  · rw [show p = ⟨0 + x1, Nat.add_lt_of_lt_sub (by omega)⟩ from Fin.ext (h1.trans (Nat.zero_add _).symm)]
    exact first_tile a b v hq hk _ _ _ _ _ _ _ _ _ _ _ _ _ _ _ _ x0 x1 e

end Cert.Mla
end
-- ==== Proof.Mla.Array.lean ====
module

public import proofs.«01_k».proof.Proof.Mla.Block
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Finite

namespace Cert.MlaIdeal.Array

open Cert.MlaIdeal Cert.MlaIdeal.Gen

variable (m : (ℓ : Loc nD τ sig) → Buf (Elt Ideal) ℓ)

/-- Which block of its array each window has at grid point `t`. -/
theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- Heads of equal queries, keys and values are equal. -/
theorem _root_.Cert.Mla.head_congr {q q' k k' : Fin 2048 → Fin 128 → EReal} {v v' : Fin 2048 → EReal} {p p' : Fin 2048}
    (hq : ∀ p d, q p d = q' p d) (hk : ∀ p d, k p d = k' p d) (hv : ∀ n, v n = v' n) (hp : p = p') : Mla.head q k v p = Mla.head q' k' v' p' := by
  obtain rfl : q = q' := funext fun p => funext (hq p)
  obtain rfl : k = k' := funext fun p => funext (hk p)
  obtain rfl : v = v' := funext hv
  rw [hp]

/-- The result array after the run is the whole result, where the queries and keys are real. -/
theorem final (c : Dev nD) (hq : ∀ i : S8x2048x1024.Idx, IsReal (m ((c : Thread nD τ).loc main_arg0) i))
    (hk : ∀ i : S8x2048x1024.Idx, IsReal (m ((c : Thread nD τ).loc main_arg1) i)) : (dats m 0 c).arrAt 3 (cfgs 0).N
    = Mla.whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  refine (Mla.out_at _ _ _ (fun i => ?_) (fun i => ?_) _ _ _).trans ?_
  · exact hq _
  · exact hk _
  unfold Mla.whole Mla.at3 Mla.block
  split <;> rename_i hl
  · refine Mla.head_congr (fun p d => ?_) (fun p d => ?_) (fun n => ?_) ?_
    · blk_point [iblk, V, Mla.lanes, idx t]
    · blk_point [iblk, V, Mla.lanes, idx t]
    · blk_point [iblk, V, idx t]
    · apply Fin.ext; blk_simp [idx t]; done
  · refine Mla.head_congr (fun p d => ?_) (fun p d => ?_) (fun n => ?_) ?_
    · blk_point [iblk, V, Mla.lanes, idx t]
    · blk_point [iblk, V, Mla.lanes, idx t]
    · blk_point [iblk, V, idx t]
    · apply Fin.ext; blk_simp [idx t]; done

end Cert.MlaIdeal.Array
end
-- ==== Proof.Mla.Ref.lean ====
module

public import proofs.«01_k».proof.Proof.Gen.MlaRefIdeal.Run
public import proofs.«01_k».proof.Proof.Mla.Heads
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Finite Cert.Softmax

namespace Cert.MlaRefIdeal.Block

open Cert.MlaRefIdeal Cert.MlaRefIdeal.Gen Cert.MlaRefIdeal.Facts

/-- Queries or keys by batch entry, position, head and lane. -/
def parted (x : FVec Ideal S8x2048x1024 .bf16) : FVec Ideal S8x2048x8x128 .f32 :=
  shapeCast _ (extf .f32 x bitsLt_bf16_f32) shapeCasts_S8x2048x1024_S8x2048x8x128

/-- The values by batch entry, position, head and lane. -/
def valued (x : FVec Ideal S8x2048x512 .bf16) : FVec Ideal S8x2048x8x64 .f32 :=
  shapeCast _ (extf .f32 x bitsLt_bf16_f32) shapeCasts_S8x2048x512_S8x2048x8x64

/-- Each query's product with each key. -/
def products (q k : FVec Ideal S8x2048x8x128 .f32) : FVec Ideal S8x8x2048x2048 .f32 :=
  Host.dotGeneral dot_S8x2048x8x128_S8x2048x8x128_S8x8x2048x2048_3_3_1_1_02_02 none q k

/-- The group of 64 positions that each position is in. -/
def groups : IVec S2048 32 :=
  Host.divsi (iotaInDim S2048 32 0) (broadcastInDim S2048 ![] bcast_S_S2048 (constantI S_ 32 64#32))

/-- Which keys each query sees. -/
def mask : IVec S2048x2048 1 :=
  cmpi .sle (broadcastInDim S2048x2048 ![0, 1] bcast_S1x2048_S2048x2048_0_1 (broadcastInDim S1x2048 ![1] bcast_S2048_S1x2048_1 groups))
    (broadcastInDim S2048x2048 ![0, 1] bcast_S2048x1_S2048x2048_0_1 (broadcastInDim S2048x1 ![0] bcast_S2048_S2048x1_0 groups))

/-- The scores where a query sees a key, −∞ elsewhere. -/
def masked (w : IVec S2048x2048 1) (s : FVec Ideal S8x8x2048x2048 .f32) : FVec Ideal S8x8x2048x2048 .f32 :=
  select (broadcastInDim S8x8x2048x2048 ![2, 3] bcast_S2048x2048_S8x8x2048x2048_2_3 w) s
    (broadcastInDim S8x8x2048x2048 ![] bcast_S_S8x8x2048x2048 (id (constant S_ .f32 0xFF800000#32)))

/-- One number for each row, at all of the row's positions. -/
def spread (r : FVec Ideal S8x8x2048 .f32) : FVec Ideal S8x8x2048x2048 .f32 :=
  broadcastInDim S8x8x2048x2048 ![0, 1, 2, 3] bcast_S8x8x2048x1_S8x8x2048x2048_0_1_2_3
    (broadcastInDim S8x8x2048x1 ![0, 1, 2] bcast_S8x8x2048_S8x8x2048x1_0_1_2 r)

/-- Each row's largest score. -/
def found (s : FVec Ideal S8x8x2048x2048 .f32) : FVec Ideal S8x8x2048 .f32 :=
  Host.reduce FloatOps.maximumf s (constant S_ .f32 0xFF800000#32) reducesTo_S8x8x2048x2048_S8x8x2048_d3 h_S_

/-- Each row's largest score, no less than the least value there is. -/
def largest (r : FVec Ideal S8x8x2048 .f32) : FVec Ideal S8x8x2048 .f32 :=
  maximumf (broadcastInDim S8x8x2048 ![] bcast_S_S8x8x2048 (constant S_ .f32 0xFF800000#32)) r

/-- The exponentials of the scores less their rows' largest. -/
def parts (s : FVec Ideal S8x8x2048x2048 .f32) : FVec Ideal S8x8x2048x2048 .f32 :=
  Host.exp (subf s (spread (largest (found s))))

/-- Each row's sum. -/
def sums (p : FVec Ideal S8x8x2048x2048 .f32) : FVec Ideal S8x8x2048 .f32 :=
  Host.reduceAdd p (constant S_ .f32 0x00000000#32) reducesTo_S8x8x2048x2048_S8x8x2048_d3 h_S_

/-- Each exponential over its row's sum. -/
def weights (p : FVec Ideal S8x8x2048x2048 .f32) : FVec Ideal S8x8x2048x2048 .f32 := Host.divf p (spread (sums p))

/-- The weighted values, the heads side by side. -/
def averaged (v : FVec Ideal S8x2048x8x64 .f32) (w : FVec Ideal S8x8x2048x2048 .f32) : FVec Ideal S8x2048x512 .bf16 :=
  truncf .bf16 (shapeCast _ (transpose S8x2048x8x64 [0, 3, 1, 2]
    (Host.dotGeneral dot_S8x2048x8x64_S8x8x2048x2048_S8x8x64x2048_1_3_3_2_02_01 none v w)
    transposes_S8x8x64x2048_S8x2048x8x64_0_3_1_2) shapeCasts_S8x2048x8x64_S8x2048x512) bitsLt_bf16_f32

/-- The reference's result is the composition of its stages. -/
theorem stages (m : (ℓ : Loc nD τ sig) → Buf (Elt Ideal) ℓ) (c : Dev nD) :
    (Value.res_out0 m c : FVec Ideal S8x2048x512 .bf16)
      = averaged (valued (m ((c.tc : Thread nD τ).loc main_arg2))) (weights (parts (masked mask
          (products (parted (m ((c.tc : Thread nD τ).loc main_arg0))) (parted (m ((c.tc : Thread nD τ).loc main_arg1))))))) := by
  rfl

theorem parted_at (x : FVec Ideal S8x2048x1024 .bf16) (b : Fin 8) (t : Fin 2048) (a : Fin 8) (d : Fin 128) :
    parted x (ix4 b t a d) = x (ix3 b t ⟨a * 128 + d, by omega⟩) := by
  pointwise [parted]

theorem valued_at (x : FVec Ideal S8x2048x512 .bf16) (b : Fin 8) (t : Fin 2048) (a : Fin 8) (d : Fin 64) :
    valued x (ix4 b t a d) = x (ix3 b t ⟨a * 64 + d, by omega⟩) := by
  pointwise [valued]

theorem products_at (q k : FVec Ideal S8x2048x8x128 .f32) (b a : Fin 8) (t n : Fin 2048) :
    products q k (ix4 b a t n) = ∑ d : Fin 128, q (ix4 b t a d) * k (ix4 b n a d) := by
  pointwise [products]

/-- The division by 64 of a position's number. -/
theorem quotient : ∀ n : Fin 2048, IntOp.divsi .host (BitVec.ofNat 32 n) 64#32 = BitVec.ofNat 32 ((n : ℕ) / 64) := by decide +kernel

/-- Comparing two groups' numbers. -/
theorem group_le : ∀ a b : Fin 32, IntOp.cmpi .sle (BitVec.ofNat 32 a) (BitVec.ofNat 32 b) = if (a : ℕ) ≤ (b : ℕ) then 1#1 else 0#1 := by
  decide +kernel

theorem groups_at (n : Fin 2048) : groups (ix1 n) = BitVec.ofNat 32 ((n : ℕ) / 64) := by
  refine Eq.trans ?_ (quotient n)
  pointwise [groups]

theorem mask_at (t n : Fin 2048) : mask (ix2 t n) = if (n : ℕ) / 64 ≤ (t : ℕ) / 64 then 1#1 else 0#1 := by
  have h : mask (ix2 t n) = IntOp.cmpi .sle (groups (ix1 n)) (groups (ix1 t)) := by pointwise [mask]
  rw [h, groups_at, groups_at]
  exact group_le ⟨(n : ℕ) / 64, by omega⟩ ⟨(t : ℕ) / 64, by omega⟩

theorem masked_at (w : IVec S2048x2048 1) (s : FVec Ideal S8x8x2048x2048 .f32) (b a : Fin 8) (t n : Fin 2048)
    (h : w (ix2 t n) = if (n : ℕ) / 64 ≤ (t : ℕ) / 64 then 1#1 else 0#1) :
    masked w s (ix4 b a t n) = if (n : ℕ) / 64 ≤ (t : ℕ) / 64 then s (ix4 b a t n) else ⊥ := by
  pointwise [masked]
  rw [h, show id (constant (F := Ideal) S_ .f32 0xFF800000#32) ix0 = ⊥ from const_neg_inf]
  split <;> rfl

theorem spread_at (r : FVec Ideal S8x8x2048 .f32) (b a : Fin 8) (t n : Fin 2048) :
    spread r (ix4 b a t n) = r (ix3 b a t) := by
  pointwise [spread]

theorem found_at (s : FVec Ideal S8x8x2048x2048 .f32) (b a : Fin 8) (t : Fin 2048) :
    found s (ix3 b a t) = top (fun n => s (ix4 b a t n)) := by
  pointwise [found]
  rw [const_neg_inf]
  rfl

theorem largest_at (r : FVec Ideal S8x8x2048 .f32) (b a : Fin 8) (t : Fin 2048) : largest r (ix3 b a t) = r (ix3 b a t) := by
  pointwise [largest]
  rw [const_neg_inf, max_bot_left]

theorem parts_at (s : FVec Ideal S8x8x2048x2048 .f32) (b a : Fin 8) (t n : Fin 2048) :
    parts s (ix4 b a t n) = part (fun n => s (ix4 b a t n)) n := by
  have h : parts s (ix4 b a t n) = Ideal.exp (s (ix4 b a t n) - spread (largest (found s)) (ix4 b a t n)) := rfl
  rw [h, spread_at, largest_at, found_at, part]

theorem sums_at (p : FVec Ideal S8x8x2048x2048 .f32) (b a : Fin 8) (t : Fin 2048) :
    sums p (ix3 b a t) = ∑ n : Fin 2048, p (ix4 b a t n) := by
  pointwise [sums]

theorem weights_at (s : FVec Ideal S8x8x2048x2048 .f32) (b a : Fin 8) (t n : Fin 2048) :
    weights (parts s) (ix4 b a t n) = weight (fun n => s (ix4 b a t n)) n := by
  have h : weights (parts s) (ix4 b a t n) = Ideal.div (parts s (ix4 b a t n)) (spread (sums (parts s)) (ix4 b a t n)) := rfl
  rw [h, spread_at, sums_at, weight, total]
  simp only [parts_at]

theorem averaged_at (v : FVec Ideal S8x2048x8x64 .f32) (w : FVec Ideal S8x8x2048x2048 .f32) (b : Fin 8) (t : Fin 2048) (j : Fin 512) :
    averaged v w (ix3 b t j)
      = ∑ n : Fin 2048, v (ix4 b n ⟨j / 64, by omega⟩ ⟨j % 64, by omega⟩) * w (ix4 b ⟨j / 64, by omega⟩ t n) := by
  pointwise [averaged]

/-- The reference's result is the whole result as the layer defines it. -/
theorem ref (m : (ℓ : Loc nD τ sig) → Buf (Elt Ideal) ℓ) (c : Dev nD) :
    (Value.res_out0 m c : FVec Ideal S8x2048x512 .bf16)
      = Mla.whole (m ((c.tc : Thread nD τ).loc main_arg0)) (m ((c.tc : Thread nD τ).loc main_arg1)) (m ((c.tc : Thread nD τ).loc main_arg2)) := by
  rw [stages]
  generalize m ((c.tc : Thread nD τ).loc main_arg0) = q
  generalize m ((c.tc : Thread nD τ).loc main_arg1) = k
  generalize m ((c.tc : Thread nD τ).loc main_arg2) = v
  change FVec Ideal S8x2048x1024 .bf16 at q k
  change FVec Ideal S8x2048x512 .bf16 at v
  funext i
  idx_vars i
  rw [averaged_at]
  simp only [weights_at, masked_at _ _ _ _ _ _ (mask_at _ _), products_at, parted_at, valued_at]
  unfold Mla.whole Mla.at3 Mla.head attend
  refine Finset.sum_congr rfl fun n _ => congrArg₂ (· * ·) (congrArg v ?_) rfl
  refine congrArg (ix3 i0 n) (Fin.ext ?_)
  show (i2 : ℕ) / 64 * 64 + (i2 : ℕ) % 64 = i2
  omega

end Cert.MlaRefIdeal.Block
end
-- ==== Proof.Finite.Decode.lean ====
module

public import proofs.«01_k».proof.Proof.Finite
public import Idealize.ShloMosaic.Lib.ReduceAll
public import Idealize.ShloMosaic.Lib.Pointwise

@[expose] public section

set_option maxRecDepth 16384

noncomputable section

open Idealize.ShloMosaic Idealize.ShloMosaic.TcCoe Idealize.SL.Sem
open Cert.Finite

namespace Cert.Finite

instance : Subsingleton (Shape.Idx ⟨0, ![]⟩) := ⟨fun _ _ => funext fun k => k.elim0⟩

/-- An array all of whose entries' absolute values the host found below `+∞` holds real numbers. -/
theorem isReal_of_all {s : Shape} {axes : List (Fin s.rank)} {x : FVec Ideal s .f32}
    {hb : Shape.BroadcastsInDim ⟨0, ![]⟩ s (![] : Fin 0 → Fin s.rank)}
    {hr : s.ReducesTo axes ⟨0, ![]⟩} {hu : 0 < Shape.numel ⟨0, ![]⟩}
    (h : Host.reduce IntOp.andi (cmpf .olt (Host.absf x) (broadcastInDim s (![] : Fin 0 → Fin s.rank) hb (constant ⟨0, ![]⟩ .f32 0x7F800000#32)))
      (constantI ⟨0, ![]⟩ 1 1#1) hr hu = fun _ => 1#1) (i : s.Idx) : IsReal (x i) := by
  have h' : BitVec.ofBool (decide (max (x i) (-x i) < Ideal.ofBits .f32 0x7F800000#32)) = 1#1 :=
    Host.reduce_andi_all _ _ hr hu _ (congrFun h ix0) i
  rw [const_inf] at h'
  refine isReal_of_abs_lt ?_
  by_contra hn
  rw [decide_eq_false hn] at h'
  exact absurd h' (by decide)

/-- Two conditions that hold together each hold. -/
theorem both {a b : IVec ⟨0, ![]⟩ 1} (h : andi a b = fun _ => 1#1) : a = (fun _ => 1#1) ∧ b = fun _ => 1#1 := by
  have key : ∀ p q : BitVec 1, p &&& q = 1#1 → p = 1#1 ∧ q = 1#1 := by decide
  exact ⟨funext fun i => (key (a i) (b i) (congrFun h i)).1, funext fun i => (key (a i) (b i) (congrFun h i)).2⟩

end Cert.Finite
end
-- ==== Proof.Mla.Claims.lean ====
module

public import proofs.«01_k».proof.Defs
public import proofs.«01_k».proof.Proof.Mla.Array
public import proofs.«01_k».proof.Proof.Mla.Ref
public import proofs.«01_k».proof.Proof.Finite.Decode
public import proofs.«01_k».proof.Proof.Gen.Mla.Frame
public import proofs.«01_k».proof.Proof.Gen.MlaIdeal.Frame
public import proofs.«01_k».proof.Proof.Gen.MlaRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem
namespace Cert.Mla.Claims

variable [Cert.Pre_scores_finite.Facts]

/-- The kernel ends with its arguments as they were and every counter at zero. -/
theorem frame_kernel : Cert.quiescent_Mla := fun m ρ _ => Cert.Mla.Gen.frame m ρ

/-- The same of the kernel over the extended reals. -/
theorem frame_ideal : Cert.quiescent_MlaIdeal := fun m ρ _ => Cert.MlaIdeal.Gen.frame m ρ

/-- The same under the precondition. -/
theorem frame_ideal_pre : Cert.quiescent_MlaIdeal_pre_scores_finite := fun m ρ _ => Cert.MlaIdeal.Gen.frame m ρ

/-- The same of the reference. -/
theorem frame_reference : Cert.quiescent_MlaRefIdeal := fun m ρ _ =>
  (θ_run _ _ _).mono (fun r h => ⟨fun c => (h c).2, sem_eq_zero_of_no_sems (by decide) r.2⟩) (Cert.MlaRefIdeal.Value.run m ρ)

/-- The same of the reference under the precondition. -/
theorem frame_reference_pre : Cert.quiescent_MlaRefIdeal_pre_scores_finite := fun m ρ _ =>
  (θ_run _ _ _).mono (fun r h => ⟨fun c => (h c).2, sem_eq_zero_of_no_sems (by decide) r.2⟩) (Cert.MlaRefIdeal.Value.run m ρ)

/-- The one constant replaced, the mask's, stands for the least extended real. -/
theorem preserved : Cert.preserves_Mla_MlaIdeal := IdealRules.named_const.statement Cert.MlaIdeal.κ "mask" .f32 0xF149F2CA#32 ⊥ rfl

/-- The precondition of the latent attention says that its queries and keys are real numbers. -/
theorem real_arguments {q k : FVec Ideal ⟨3, ![8, 2048, 1024]⟩ .bf16} {v : FVec Ideal ⟨3, ![8, 2048, 512]⟩ .bf16}
    (h : Cert.Pre_scores_finite.fn (F := Ideal) q k v = fun _ => 1#1) : (∀ i, Finite.IsReal (q i)) ∧ ∀ i, Finite.IsReal (k i) := by
  obtain ⟨hq, hk⟩ := Finite.both h
  exact ⟨Finite.isReal_of_all hq, Finite.isReal_of_all hk⟩

/-- Over the extended reals the kernel's result is the reference's, for real queries and keys. -/
theorem algebraic : Cert.algebraic_MlaIdeal_MlaRefIdeal_pre_scores_finite := by
  pair_intro
  · run_from Cert.MlaIdeal.Gen.run_main m g
  · run_from Cert.MlaRefIdeal.Value.run m' g'
    refine (Cert.MlaRefIdeal.Block.ref m' c).trans ?_
    obtain ⟨hq, hk⟩ := real_arguments (hpre c)
    refine Eq.trans ?_ (Cert.MlaIdeal.Array.final m c hq hk).symm
    obtain ⟨h0, h1, h2⟩ := hagree c
    rw [h0, h1, h2]

end Cert.Mla.Claims
end
-- ==== Proof.Softmax.Blend.lean ====
module

public import proofs.«01_k».proof.Proof.Softmax.Stretches

@[expose] public section

set_option maxRecDepth 16384

noncomputable section

open Idealize.ShloMosaic Idealize.ShloMosaic.TcCoe Idealize.SL.Sem
open Cert.Finite

namespace Cert.Softmax

variable {n lo w : ℕ}

/-- The values summed with the weights of one row of scores less `lam` times those of another. -/
def mixed (s s' : Fin n → EReal) (lam : EReal) (v : Fin n → EReal) : EReal := ∑ k, v k * (weight s k - lam * weight s' k)

/-- The largest score of two stretches. -/
def peak (sd : Fin w → EReal) (sp : Fin lo → EReal) : EReal := max (top sd) (top sp)

/-- The sum of the exponentials of two stretches. -/
def mass (sd : Fin w → EReal) (sp : Fin lo → EReal) : EReal :=
  ∑ k, Ideal.exp (sd k - peak sd sp) + ∑ k, Ideal.exp (sp k - peak sd sp)

/-- The weight formed from one exponential of each of two maps, by the reciprocals of the maps' sums. -/
def stake (p t p' t' lam : EReal) : EReal := p * Ideal.div 1 t + p' * ((0 - lam) * Ideal.div 1 t')

/-- The mixed values formed from two stretches of positions. -/
def blend (sd : Fin w → EReal) (sp : Fin lo → EReal) (sd' : Fin w → EReal) (sp' : Fin lo → EReal) (vd : Fin w → EReal) (vp : Fin lo → EReal)
    (lam : EReal) : EReal :=
  ∑ k, stake (Ideal.exp (sd k - peak sd sp)) (mass sd sp) (Ideal.exp (sd' k - peak sd' sp')) (mass sd' sp') lam * vd k
    + ∑ k, stake (Ideal.exp (sp k - peak sd sp)) (mass sd sp) (Ideal.exp (sp' k - peak sd' sp')) (mass sd' sp') lam * vp k

/-- The weight formed from whole rows is the difference of the rows' weights. -/
theorem stake_eq {s s' : Fin n → EReal} (h : Good s) (h' : Good s') (lam : EReal) (k : Fin n) :
    stake (part s k) (total s) (part s' k) (total s') lam = weight s k - lam * weight s' k := by
  obtain ⟨c, -, e⟩ := div_total h
  obtain ⟨c', -, e'⟩ := div_total h'
  unfold stake weight
  rw [e, e, e', e', one_mul, one_mul, zero_sub, neg_mul, mul_neg, sub_eq_add_neg, mul_left_comm]

/-- A masked position has weight zero. -/
theorem weight_of_bot {s : Fin n → EReal} (h : Good s) {k : Fin n} (hk : s k = ⊥) : weight s k = 0 := by
  obtain ⟨c, -, e⟩ := div_total h
  unfold weight
  rw [e, part_of_bot hk, zero_mul]

/-- The sum of the exponentials of the two stretches that hold a row's unmasked scores is the row's. -/
theorem mass_eq (h : lo + w ≤ n) (s : Fin n → EReal) (hs : ∀ k : Fin n, lo + w ≤ (k : ℕ) → s k = ⊥) :
    mass (fun k : Fin w => s ⟨lo + k, by omega⟩) (fun k : Fin lo => s ⟨k, by omega⟩) = total s := by
  have ht := sum_stretches h s (fun _ => 1) hs
  simp only [mul_one] at ht
  unfold mass total peak
  rw [← top_prefix h s hs, ht]
  rfl

/-- The two stretches mix the values as the whole rows do. -/
theorem blend_eq (h : lo + w ≤ n) (s s' v : Fin n → EReal) (lam : EReal) (hs : ∀ k : Fin n, lo + w ≤ (k : ℕ) → s k = ⊥)
    (hs' : ∀ k : Fin n, lo + w ≤ (k : ℕ) → s' k = ⊥) (hg : Good s) (hg' : Good s')
    {sd sd' vd : Fin w → EReal} {sp sp' vp : Fin lo → EReal} (hsd : ∀ k, sd k = s ⟨lo + k, by omega⟩) (hsp : ∀ k, sp k = s ⟨k, by omega⟩)
    (hsd' : ∀ k, sd' k = s' ⟨lo + k, by omega⟩) (hsp' : ∀ k, sp' k = s' ⟨k, by omega⟩)
    (hvd : ∀ k, vd k = v ⟨lo + k, by omega⟩) (hvp : ∀ k, vp k = v ⟨k, by omega⟩) :
    blend sd sp sd' sp' vd vp lam = mixed s s' lam v := by
  obtain rfl : sd = fun k : Fin w => s ⟨lo + k, by omega⟩ := funext hsd
  obtain rfl : sd' = fun k : Fin w => s' ⟨lo + k, by omega⟩ := funext hsd'
  obtain rfl : vd = fun k : Fin w => v ⟨lo + k, by omega⟩ := funext hvd
  obtain rfl : sp = fun k : Fin lo => s ⟨k, by omega⟩ := funext hsp
  obtain rfl : sp' = fun k : Fin lo => s' ⟨k, by omega⟩ := funext hsp'
  obtain rfl : vp = fun k : Fin lo => v ⟨k, by omega⟩ := funext hvp
  unfold blend
  rw [mass_eq h s hs, mass_eq h s' hs']
  unfold peak
  rw [← top_prefix h s hs, ← top_prefix h s' hs']
  have key : ∀ k : Fin n, stake (Ideal.exp (s k - top s)) (total s) (Ideal.exp (s' k - top s')) (total s') lam * v k
      = v k * (weight s k - lam * weight s' k) := fun k => by
    rw [← stake_eq hg hg' lam k, mul_comm]
    rfl
  simp only [key]
  refine ((sum_prefix h (fun k => v k * (weight s k - lam * weight s' k)) fun k hk => ?_).trans (add_comm _ _)).symm
  rw [weight_of_bot hg (hs k hk), weight_of_bot hg' (hs' k hk), mul_zero, sub_zero, mul_zero]

end Cert.Softmax
end
-- ==== Proof.Tile.Maps.lean ====
module

public import proofs.«01_k».proof.Proof.Tile.Heads
public import proofs.«01_k».proof.Proof.Softmax.Blend

@[expose] public section

set_option maxRecDepth 16384

noncomputable section

open Idealize.ShloMosaic Idealize.ShloMosaic.TcCoe Idealize.SL.Sem
open Cert.Finite Cert.Softmax

namespace Cert.Tile

variable {W : ℕ}

/-- The queries of one of two maps: the other map's lanes are zero. The bit `j` says that the map has the lanes from 64 on. -/
def only (j : BitVec 1) (lane : IVec ⟨2, ![256, 128]⟩ 32) (q : FVec Ideal ⟨2, ![256, 128]⟩ .bf16)
    (hl : Shape.Broadcasts ⟨2, ![256, 128]⟩ ⟨2, ![256, 128]⟩) : FVec Ideal ⟨2, ![256, 128]⟩ .bf16 :=
  select (xori (cmpi .slt lane (broadcast ⟨2, ![256, 128]⟩ 64#32)) (broadcastTo ⟨2, ![256, 128]⟩ (broadcast ⟨2, ![256, 128]⟩ j) hl)) q
    (broadcast ⟨2, ![256, 128]⟩ (Scalar.ofBits .bf16 0x0000#16))

/-- The reciprocals of the rows' sums. -/
def inverse (t : FVec Ideal ⟨2, ![256, 1]⟩ .f32) : FVec Ideal ⟨2, ![256, 1]⟩ .f32 :=
  divf (broadcast ⟨2, ![256, 1]⟩ (Scalar.ofBits .f32 0x3F800000#32)) t

/-- The second map's factors: the reciprocals times `-lam`. -/
def negated (lam : FVec Ideal ⟨2, ![1, 1]⟩ .f32) (c : FVec Ideal ⟨2, ![256, 1]⟩ .f32) (h1 : Shape.Broadcasts ⟨2, ![1, 1]⟩ ⟨2, ![256, 1]⟩) :
    FVec Ideal ⟨2, ![256, 1]⟩ .f32 :=
  mulf (broadcastTo ⟨2, ![256, 1]⟩ (subf (broadcast ⟨2, ![1, 1]⟩ (Scalar.ofBits .f32 0x00000000#32)) lam) h1) c

/-- The two maps' exponentials, each times its row's factor, added. -/
def joined (p p' : FVec Ideal ⟨2, ![256, W]⟩ .f32) (c c' : FVec Ideal ⟨2, ![256, 1]⟩ .f32) (hb : Shape.Broadcasts ⟨2, ![256, 1]⟩ ⟨2, ![256, W]⟩)
    (ht : FTy.bf16.bits < FTy.f32.bits) : FVec Ideal ⟨2, ![256, W]⟩ .bf16 :=
  truncf .bf16 (addf (mulf p (broadcastTo ⟨2, ![256, W]⟩ c hb)) (mulf p' (broadcastTo ⟨2, ![256, W]⟩ c' hb))) ht

/-- Each row over the root of its mean square, times one less `z`. -/
def normed (o : FVec Ideal ⟨2, ![256, 128]⟩ .f32) (z : FVec Ideal ⟨2, ![1, 1]⟩ .f32) (hr : Shape.Reduces ⟨2, ![256, 128]⟩ [1] ⟨1, ![256]⟩)
    (hc : Shape.ShapeCasts ⟨1, ![256]⟩ ⟨2, ![256, 1]⟩) (ho : Shape.Broadcasts ⟨2, ![256, 1]⟩ ⟨2, ![256, 128]⟩)
    (h1 : Shape.Broadcasts ⟨2, ![1, 1]⟩ ⟨2, ![256, 128]⟩) (ht : FTy.bf16.bits < FTy.f32.bits)
    (hs : Shape.ShapeCasts ⟨2, ![256, 128]⟩ ⟨3, ![1, 256, 128]⟩) : FVec Ideal ⟨3, ![1, 256, 128]⟩ .bf16 :=
  shapeCast ⟨3, ![1, 256, 128]⟩ (truncf .bf16 (mulf (mulf o (broadcastTo ⟨2, ![256, 128]⟩
    (rsqrt (addf (divf (sums (mulf o o) hr hc) (broadcast ⟨2, ![256, 1]⟩ (Scalar.ofBits .f32 0x43000000#32)))
      (broadcast ⟨2, ![256, 1]⟩ (Scalar.ofBits .f32 0x358637BD#32)))) ho))
    (broadcastTo ⟨2, ![256, 128]⟩ (subf (broadcast ⟨2, ![1, 1]⟩ (Scalar.ofBits .f32 0x3F800000#32)) z) h1)) ht) hs

/-- The values of a tile that has `W` earlier positions, summed with the two maps' weights. -/
def lateMix (q q' kd : FVec Ideal ⟨2, ![256, 128]⟩ .bf16) (kp : FVec Ideal ⟨2, ![W, 128]⟩ .bf16) (vd : FVec Ideal ⟨2, ![256, 128]⟩ .bf16)
    (vp : FVec Ideal ⟨2, ![W, 128]⟩ .bf16) (bias : FVec Ideal ⟨2, ![256, 256]⟩ .f32) (lam : FVec Ideal ⟨2, ![1, 1]⟩ .f32)
    (hr : Shape.Reduces ⟨2, ![256, 256]⟩ [1] ⟨1, ![256]⟩) (hrp : Shape.Reduces ⟨2, ![256, W]⟩ [1] ⟨1, ![256]⟩)
    (hc : Shape.ShapeCasts ⟨1, ![256]⟩ ⟨2, ![256, 1]⟩) (hb : Shape.Broadcasts ⟨2, ![256, 1]⟩ ⟨2, ![256, 256]⟩)
    (hbp : Shape.Broadcasts ⟨2, ![256, 1]⟩ ⟨2, ![256, W]⟩) (h1 : Shape.Broadcasts ⟨2, ![1, 1]⟩ ⟨2, ![256, 1]⟩) (ht : FTy.bf16.bits < FTy.f32.bits) :
    FVec Ideal ⟨2, ![256, 128]⟩ .f32 :=
  let sd := addf (products q kd) bias
  let sp := products q kp
  let m := maximumf (largest sd hr hc) (largest sp hrp hc)
  let sd' := addf (products q' kd) bias
  let sp' := products q' kp
  let m' := maximumf (largest sd' hr hc) (largest sp' hrp hc)
  let c := inverse (addf (sums (exponentials sd m hb) hr hc) (sums (exponentials sp m hbp) hrp hc))
  let c' := negated lam (inverse (addf (sums (exponentials sd' m' hb) hr hc) (sums (exponentials sp' m' hbp) hrp hc))) h1
  addf (weighted (joined (exponentials sd m hb) (exponentials sd' m' hb) c c' hb ht) vd)
    (weighted (joined (exponentials sp m hbp) (exponentials sp' m' hbp) c c' hbp ht) vp)

/-- The values of the first tile, which has no earlier positions. -/
def firstMix (q q' kd vd : FVec Ideal ⟨2, ![256, 128]⟩ .bf16) (bias : FVec Ideal ⟨2, ![256, 256]⟩ .f32) (lam : FVec Ideal ⟨2, ![1, 1]⟩ .f32)
    (hr : Shape.Reduces ⟨2, ![256, 256]⟩ [1] ⟨1, ![256]⟩) (hc : Shape.ShapeCasts ⟨1, ![256]⟩ ⟨2, ![256, 1]⟩)
    (hb : Shape.Broadcasts ⟨2, ![256, 1]⟩ ⟨2, ![256, 256]⟩) (h1 : Shape.Broadcasts ⟨2, ![1, 1]⟩ ⟨2, ![256, 1]⟩) (ht : FTy.bf16.bits < FTy.f32.bits) :
    FVec Ideal ⟨2, ![256, 128]⟩ .f32 :=
  let sd := addf (products q kd) bias
  let m := largest sd hr hc
  let sd' := addf (products q' kd) bias
  let m' := largest sd' hr hc
  weighted (joined (exponentials sd m hb) (exponentials sd' m' hb) (inverse (sums (exponentials sd m hb) hr hc))
    (negated lam (inverse (sums (exponentials sd' m' hb) hr hc)) h1) hb ht) vd

theorem only_low (lane : IVec ⟨2, ![256, 128]⟩ 32) (q hl) (r : Fin 256) (d : Fin 128) (h : lane (ix2 r d) = BitVec.ofNat 32 d) :
    only 0#1 lane q hl (ix2 r d) = if (d : ℕ) < 64 then q (ix2 r d) else 0 := by
  pointwise [only]
  rw [h, lane_lt]
  split <;> rfl

theorem only_high (lane : IVec ⟨2, ![256, 128]⟩ 32) (q hl) (r : Fin 256) (d : Fin 128) (h : lane (ix2 r d) = BitVec.ofNat 32 d) :
    only 1#1 lane q hl (ix2 r d) = if (d : ℕ) < 64 then 0 else q (ix2 r d) := by
  pointwise [only]
  rw [h, lane_lt]
  split <;> rfl

theorem inverse_at (t : FVec Ideal ⟨2, ![256, 1]⟩ .f32) (r : Fin 256) (z : Fin 1) : inverse t (ix2 r z) = Ideal.div 1 (t (ix2 r z)) := by
  pointwise [inverse]

theorem negated_at (lam : FVec Ideal ⟨2, ![1, 1]⟩ .f32) (c h1) (r : Fin 256) (z : Fin 1) :
    negated lam c h1 (ix2 r z) = (0 - lam (ix2 0 0)) * c (ix2 r z) := by
  pointwise [negated]

theorem joined_at (p p' : FVec Ideal ⟨2, ![256, W]⟩ .f32) (c c' hb ht) (r : Fin 256) (k : Fin W) :
    joined p p' c c' hb ht (ix2 r k) = p (ix2 r k) * c (ix2 r 0) + p' (ix2 r k) * c' (ix2 r 0) := by
  pointwise [joined]

/-- A row over the root of its mean square, times one less `z`, at a lane. -/
def normal (o : Fin 128 → EReal) (z : EReal) (e : Fin 128) : EReal :=
  o e * Ideal.rsqrt (Ideal.div (∑ k, o k * o k) (Ideal.ofBits .f32 0x43000000#32) + Ideal.ofBits .f32 0x358637BD#32)
    * (Ideal.ofBits .f32 0x3F800000#32 - z)

theorem normed_at (o : FVec Ideal ⟨2, ![256, 128]⟩ .f32) (z hr hc ho h1 ht hs) (i : Fin 1) (r : Fin 256) (e : Fin 128) :
    normed o z hr hc ho h1 ht hs (ix3 i r e) = normal (fun e => o (ix2 r e)) (z (ix2 0 0)) e := by
  obtain rfl : i = 0 := Subsingleton.elim _ _
  have h : normed o z hr hc ho h1 ht hs (ix3 0 r e)
      = o (ix2 r e) * Ideal.rsqrt (Ideal.div (sums (mulf o o) hr hc (ix2 r 0)) (Ideal.ofBits .f32 0x43000000#32) + Ideal.ofBits .f32 0x358637BD#32)
        * (Ideal.ofBits .f32 0x3F800000#32 - z (ix2 0 0)) := by
    pointwise [normed]
  rw [h, sums_at]
  rfl

/-- The values of a late tile at an index: those of its two stretches. -/
theorem lateMix_at (q q' kd : FVec Ideal ⟨2, ![256, 128]⟩ .bf16) (kp : FVec Ideal ⟨2, ![W, 128]⟩ .bf16) (vd : FVec Ideal ⟨2, ![256, 128]⟩ .bf16)
    (vp : FVec Ideal ⟨2, ![W, 128]⟩ .bf16) (bias : FVec Ideal ⟨2, ![256, 256]⟩ .f32) (lam : FVec Ideal ⟨2, ![1, 1]⟩ .f32) (hr hrp hc hb hbp h1 ht)
    (r : Fin 256) (e : Fin 128) :
    lateMix q q' kd kp vd vp bias lam hr hrp hc hb hbp h1 ht (ix2 r e)
      = blend (fun k : Fin 256 => ∑ d : Fin 128, q (ix2 r d) * kd (ix2 k d) + bias (ix2 r k))
          (fun k : Fin W => ∑ d : Fin 128, q (ix2 r d) * kp (ix2 k d))
          (fun k : Fin 256 => ∑ d : Fin 128, q' (ix2 r d) * kd (ix2 k d) + bias (ix2 r k))
          (fun k : Fin W => ∑ d : Fin 128, q' (ix2 r d) * kp (ix2 k d)) (fun k => vd (ix2 k e)) (fun k => vp (ix2 k e)) (lam (ix2 0 0)) := by
  have hd : ∀ (q : FVec Ideal ⟨2, ![256, 128]⟩ .bf16) (k : Fin 256),
      addf (products q kd) bias (ix2 r k) = ∑ d : Fin 128, q (ix2 r d) * kd (ix2 k d) + bias (ix2 r k) :=
    fun q k => congrArg (· + _) (products_at q kd r k)
  have hm : ∀ a b : FVec Ideal ⟨2, ![256, 1]⟩ .f32, maximumf a b (ix2 r 0) = max (a (ix2 r 0)) (b (ix2 r 0)) := fun a b => rfl
  have ha : ∀ a b : FVec Ideal ⟨2, ![256, 1]⟩ .f32, addf a b (ix2 r 0) = a (ix2 r 0) + b (ix2 r 0) := fun a b => rfl
  have key : ∀ a b : FVec Ideal ⟨2, ![256, 128]⟩ .f32, addf a b (ix2 r e) = a (ix2 r e) + b (ix2 r e) := fun a b => rfl
  unfold lateMix
  refine (key _ _).trans ?_
  simp only [weighted_at, joined_at, negated_at, inverse_at, ha, sums_at, exponentials_at, hm, largest_at, hd, products_at]
  rfl

/-- The values of the first tile at an index: those of its stretch and of no earlier positions. -/
theorem firstMix_at (q q' kd vd : FVec Ideal ⟨2, ![256, 128]⟩ .bf16) (bias : FVec Ideal ⟨2, ![256, 256]⟩ .f32)
    (lam : FVec Ideal ⟨2, ![1, 1]⟩ .f32) (hr hc hb h1 ht) (r : Fin 256) (e : Fin 128) (u u' w : Fin 0 → EReal) :
    firstMix q q' kd vd bias lam hr hc hb h1 ht (ix2 r e)
      = blend (fun k : Fin 256 => ∑ d : Fin 128, q (ix2 r d) * kd (ix2 k d) + bias (ix2 r k)) u
          (fun k : Fin 256 => ∑ d : Fin 128, q' (ix2 r d) * kd (ix2 k d) + bias (ix2 r k)) u' (fun k => vd (ix2 k e)) w (lam (ix2 0 0)) := by
  have hd : ∀ (q : FVec Ideal ⟨2, ![256, 128]⟩ .bf16) (k : Fin 256),
      addf (products q kd) bias (ix2 r k) = ∑ d : Fin 128, q (ix2 r d) * kd (ix2 k d) + bias (ix2 r k) :=
    fun q k => congrArg (· + _) (products_at q kd r k)
  have hp : ∀ (s : Fin 256 → EReal) (u : Fin 0 → EReal), peak s u = top s := fun s u => max_bot_right _
  have ht' : ∀ (s : Fin 256 → EReal) (u : Fin 0 → EReal), mass s u = ∑ k, Ideal.exp (s k - top s) := fun s u => by
    unfold mass
    rw [Finset.univ_eq_empty (α := Fin 0), Finset.sum_empty, add_zero, hp]
  unfold firstMix
  simp only [weighted_at, joined_at, negated_at, inverse_at, sums_at, exponentials_at, largest_at, hd]
  unfold blend
  rw [Finset.univ_eq_empty (α := Fin 0), Finset.sum_empty, add_zero]
  simp only [ht', hp]
  rfl

end Cert.Tile
end
-- ==== Proof.Diff.Heads.lean ====
module

public import proofs.«01_k».proof.Proof.Tile.Maps
public import proofs.«01_k».proof.Proof.Mla.Heads

@[expose] public section

set_option maxRecDepth 16384

noncomputable section

open Idealize.ShloMosaic Idealize.ShloMosaic.TcCoe Idealize.SL.Sem
open Cert.Finite Cert.Softmax
open Cert.Mla (score good Bias near past after)

namespace Cert.Diff

/-- The queries of the first map: the lanes from 64 on are zero. -/
def low (q : Fin 2048 → Fin 128 → EReal) (p : Fin 2048) (d : Fin 128) : EReal := if (d : ℕ) < 64 then q p d else 0

/-- The queries of the second map: the lanes below 64 are zero. -/
def high (q : Fin 2048 → Fin 128 → EReal) (p : Fin 2048) (d : Fin 128) : EReal := if (d : ℕ) < 64 then 0 else q p d

/-- The factor of the second map, from the four rows of parameters and the initial value. -/
def lambda (l : Fin 4 → Fin 64 → EReal) (z : EReal) : EReal :=
  Ideal.exp (∑ d, l 0 d * l 1 d) - Ideal.exp (∑ d, l 2 d * l 3 d) + z

/-- One lane of one head's mixed values at position `p`. -/
def mix (q k : Fin 2048 → Fin 128 → EReal) (v : Fin 2048 → EReal) (lam : EReal) (p : Fin 2048) : EReal :=
  mixed (score (low q) k p) (score (high q) k p) lam v

/-- One lane of one head's result at position `p`: the mixed values over the root of their mean square, times one less `z`. -/
def head (q k v : Fin 2048 → Fin 128 → EReal) (lam z : EReal) (p : Fin 2048) (e : Fin 128) : EReal :=
  Tile.normal (fun e => mix q k (fun n => v n e) lam p) z e

/-- The lanes kept of real queries, and zeros, are real. -/
theorem low_real {q : Fin 2048 → Fin 128 → EReal} (hq : ∀ p d, IsReal (q p d)) (p : Fin 2048) (d : Fin 128) : IsReal (low q p d) := by
  unfold low
  split
  · exact hq p d
  · exact ⟨0, rfl⟩

theorem high_real {q : Fin 2048 → Fin 128 → EReal} (hq : ∀ p d, IsReal (q p d)) (p : Fin 2048) (d : Fin 128) : IsReal (high q p d) := by
  unfold high
  split
  · exact ⟨0, rfl⟩
  · exact hq p d

/-- The values of a late tile are the head's mixed values. -/
theorem late_eq {q k : Fin 2048 → Fin 128 → EReal} (v : Fin 2048 → EReal) (hq : ∀ p d, IsReal (q p d)) (hk : ∀ p d, IsReal (k p d))
    (lo : ℕ) (hlo : lo + 256 ≤ 2048) (hm : lo % 256 = 0)
    {tq tq' tkd : FVec Ideal ⟨2, ![256, 128]⟩ .bf16} {tkp : FVec Ideal ⟨2, ![lo, 128]⟩ .bf16} {tvd : FVec Ideal ⟨2, ![256, 128]⟩ .bf16}
    {tvp : FVec Ideal ⟨2, ![lo, 128]⟩ .bf16} {b : FVec Ideal ⟨2, ![256, 256]⟩ .f32} (hb : Bias b) {lam : FVec Ideal ⟨2, ![1, 1]⟩ .f32} (e : Fin 128)
    (hr hrp hc hbr hbp ho ht)
    (h0 : ∀ (r : Fin 256) d, tq (ix2 r d) = low q ⟨lo + r, by omega⟩ d) (h0' : ∀ (r : Fin 256) d, tq' (ix2 r d) = high q ⟨lo + r, by omega⟩ d)
    (h1 : ∀ (r : Fin 256) d, tkd (ix2 r d) = k ⟨lo + r, by omega⟩ d)
    (h2 : ∀ (r : Fin lo) d, tkp (ix2 r d) = k ⟨r, by omega⟩ d) (h3 : ∀ r : Fin 256, tvd (ix2 r e) = v ⟨lo + r, by omega⟩)
    (h4 : ∀ r : Fin lo, tvp (ix2 r e) = v ⟨r, by omega⟩) (r : Fin 256) :
    Tile.lateMix tq tq' tkd tkp tvd tvp b lam hr hrp hc hbr hbp ho ht (ix2 r e) = mix q k v (lam (ix2 0 0)) ⟨lo + r, by omega⟩ := by
  refine (Tile.lateMix_at _ _ _ _ _ _ _ _ _ _ _ _ _ _ _ r e).trans ?_
  simp only [h0, h0', h1, h2]
  exact blend_eq hlo _ _ _ _ (after hlo (by omega) hm r) (after hlo (by omega) hm r) (good (low_real hq) hk _) (good (high_real hq) hk _)
    (near (low_real hq) hk hlo (by omega) hb r) (past hlo r) (near (high_real hq) hk hlo (by omega) hb r) (past hlo r) h3 h4

/-- The values of the first tile are the head's mixed values. -/
theorem first_eq {q k : Fin 2048 → Fin 128 → EReal} (v : Fin 2048 → EReal) (hq : ∀ p d, IsReal (q p d)) (hk : ∀ p d, IsReal (k p d))
    {tq tq' tkd tvd : FVec Ideal ⟨2, ![256, 128]⟩ .bf16} {b : FVec Ideal ⟨2, ![256, 256]⟩ .f32} (hb : Bias b) {lam : FVec Ideal ⟨2, ![1, 1]⟩ .f32} (e : Fin 128)
    (hr hc hbr ho ht)
    (h0 : ∀ (r : Fin 256) d, tq (ix2 r d) = low q ⟨0 + r, by omega⟩ d) (h0' : ∀ (r : Fin 256) d, tq' (ix2 r d) = high q ⟨0 + r, by omega⟩ d)
    (h1 : ∀ (r : Fin 256) d, tkd (ix2 r d) = k ⟨0 + r, by omega⟩ d)
    (h3 : ∀ r : Fin 256, tvd (ix2 r e) = v ⟨0 + r, by omega⟩) (r : Fin 256) :
    Tile.firstMix tq tq' tkd tvd b lam hr hc hbr ho ht (ix2 r e) = mix q k v (lam (ix2 0 0)) ⟨0 + r, by omega⟩ := by
  refine (Tile.firstMix_at _ _ _ _ _ _ _ _ _ _ _ r e (fun n => n.elim0) (fun n => n.elim0) (fun n => n.elim0)).trans ?_
  simp only [h0, h0', h1]
  exact blend_eq (lo := 0) (by omega) _ _ _ _ (after (lo := 0) (by omega) rfl rfl r) (after (lo := 0) (by omega) rfl rfl r)
    (good (low_real hq) hk _) (good (high_real hq) hk _) (near (low_real hq) hk (by omega) rfl hb r) (fun n => n.elim0)
    (near (high_real hq) hk (by omega) rfl hb r) (fun n => n.elim0) h3 (fun n => n.elim0)

/-- A block's rows. -/
def rows (x : Vec Ideal ⟨3, ![1, 2048, 128]⟩ .bf16) (p : Fin 2048) (d : Fin 128) : EReal := x (ix3 0 p d)

/-- What a grid step leaves in its block of the result. -/
def block (x0 x1 x2 : Vec Ideal ⟨3, ![1, 2048, 128]⟩ .bf16) (x3 : Vec Ideal ⟨2, ![4, 64]⟩ .f32) (x4 : Vec Ideal ⟨2, ![1, 1]⟩ .f32)
    (p : Fin 2048) (e : Fin 128) : EReal :=
  head (rows x0) (rows x1) (rows x2) (lambda (fun i d => x3 (ix2 i d)) (x4 (ix2 0 0))) (x4 (ix2 0 0)) p e

/-- The 128 lanes of head `h` of one batch entry. -/
def lanes (x : FVec Ideal ⟨3, ![8, 2048, 512]⟩ .bf16) (b : Fin 8) (h : ℕ) (hh : h < 4) (p : Fin 2048) (d : Fin 128) : EReal :=
  x (ix3 b p ⟨h * 128 + d, by omega⟩)

/-- The result of the layer's differential attention at a batch entry, a position and a lane. -/
def at3 (q k v : FVec Ideal ⟨3, ![8, 2048, 512]⟩ .bf16) (l : FVec Ideal ⟨2, ![4, 64]⟩ .f32) (z : FVec Ideal ⟨2, ![1, 1]⟩ .f32)
    (b : Fin 8) (p : Fin 2048) (j : Fin 512) : EReal :=
  head (lanes q b (j / 128) (by omega)) (lanes k b (j / 128) (by omega)) (lanes v b (j / 128) (by omega))
    (lambda (fun i d => l (ix2 i d)) (z (ix2 0 0))) (z (ix2 0 0)) p ⟨j % 128, by omega⟩

/-- The whole result of the differential attention. -/
def whole (q k v : FVec Ideal ⟨3, ![8, 2048, 512]⟩ .bf16) (l : FVec Ideal ⟨2, ![4, 64]⟩ .f32) (z : FVec Ideal ⟨2, ![1, 1]⟩ .f32) :
    FVec Ideal ⟨3, ![8, 2048, 512]⟩ .bf16 :=
  fun i => at3 q k v l z (i 0) (i 1) (i 2)

end Cert.Diff
end
-- ==== Proof.Diff.Tiles.lean ====
module

public import proofs.«01_k».proof.Proof.Diff.Heads
public import proofs.«01_k».proof.Proof.Gen.DiffIdeal.Frame
public import Idealize.ShloMosaic.Lib.Pipeline.ValueKit

@[expose] public section

set_option maxRecDepth 16384

noncomputable section

open Idealize.ShloMosaic Idealize.ShloMosaic.TcCoe Idealize.SL.Sem
open Cert.Finite Cert.Softmax Cert.DiffIdeal Cert.DiffIdeal.Gen
open Cert.Mla (Bias)

namespace Cert.Diff

variable (x0 x1 x2 : Vec Ideal S1x2048x128 .bf16) (x3 : Vec Ideal S4x64 .f32) (x4 : Vec Ideal S1x1 .f32)

/-- A number below 256, its groups of 64. -/
theorem group : ∀ r : Fin 256, IntOp.shrsi .vector (BitVec.ofNat 32 r) 6#32 = BitVec.ofNat 32 ((r : ℕ) / 64) := by decide +kernel

/-- Comparing two groups. -/
theorem group_le : ∀ a b : Fin 4, IntOp.cmpi .sle (BitVec.ofNat 32 a) (BitVec.ofNat 32 b) = if (a : ℕ) ≤ (b : ℕ) then 1#1 else 0#1 := by
  decide +kernel

/-- The mask that the kernel adds: zero where the key's group isn't after the query's, the named −∞ elsewhere. -/
theorem bias : Bias (k0_pay154 x0 x1 x2 x3 x4) := fun r k => by
  pointwise [k0_pay154, k0_pay2]
  rw [group, group, group_le ⟨(k : ℕ) / 64, by omega⟩ ⟨(r : ℕ) / 64, by omega⟩]
  rw [IdealRules.named_const.ideal_named_scalar _ _ _ _ rfl]
  dsimp only
  split <;> rfl

/-- The lane numbers. -/
theorem lane (r : Fin 256) (e : Fin 128) : k0_pay153 x0 x1 x2 x3 x4 (ix2 r e) = BitVec.ofNat 32 e := by
  pointwise [k0_pay153]

/-- The initial value, read whole. -/
theorem initial : View.ld (Val := Elt Ideal) (e' := .f32) x4 r0_1 (ix2 0 0) = x4 (ix2 0 0) := by
  refine congrArg x4 (funext fun i => Fin.ext ?_)
  fin_cases i <;> simp

/-- The parameters, read whole. -/
theorem parameters (i : Fin 4) (d : Fin 64) : View.ld (Val := Elt Ideal) (e' := .f32) x3 r0_0 (ix2 i d) = x3 (ix2 i d) := by
  refine congrArg x3 (funext fun i => Fin.ext ?_)
  fin_cases i <;> simp

/-- The second map's factor, from the parameters as they are read. -/
theorem factor_of (l : FVec Ideal S4x64 .f32) (z : FVec Ideal S1x1 .f32) :
    k0_pay3 (F := Ideal) l z (ix2 0 0) = lambda (fun i d => l (ix2 i d)) (z (ix2 0 0)) := by
  pointwise [k0_pay3]
  rfl

/-- The second map's factor. -/
theorem factor : k0_pay155 x0 x1 x2 x3 x4 (ix2 0 0) = lambda (fun i d => x3 (ix2 i d)) (x4 (ix2 0 0)) := by
  refine (factor_of (View.ld x3 r0_0) (View.ld x4 r0_1)).trans ?_
  exact congrArg₂ lambda (funext fun i => funext fun d => parameters x3 i d) (initial x4)

/-- A late tile is the block's result there. -/
theorem late_tile (hq : ∀ i, IsReal (x0 i)) (hk : ∀ i, IsReal (x1 i))
    (lo : ℕ) (hlo : lo + 256 ≤ 2048) (hm : lo % 256 = 0) (hl hr hrp hc hbr hbp h1 ht hrn ho h2 hs)
    (i0 i1) (c0 c1) (z : Fin 1) (r : Fin 256) (e : Fin 128) :
    Tile.normed
        (Tile.lateMix (W := lo)
          (Tile.only 0#1 (k0_pay153 x0 x1 x2 x3 x4) (shapeCast S256x128 (View.ld (Val := Elt Ideal) x0 (Rect.unit (s := S1x2048x128) ![0, lo, 0] ![1, 256, 128] i0)) c0) hl)
          (Tile.only 1#1 (k0_pay153 x0 x1 x2 x3 x4) (shapeCast S256x128 (View.ld (Val := Elt Ideal) x0 (Rect.unit (s := S1x2048x128) ![0, lo, 0] ![1, 256, 128] i0)) c0) hl)
          (shapeCast S256x128 (View.ld (Val := Elt Ideal) x1 (Rect.unit (s := S1x2048x128) ![0, lo, 0] ![1, 256, 128] i0)) c0)
          (shapeCast ⟨2, ![lo, 128]⟩ (View.ld (Val := Elt Ideal) x1 (Rect.unit (s := S1x2048x128) ![0, 0, 0] ![1, lo, 128] i1)) c1)
          (shapeCast S256x128 (View.ld (Val := Elt Ideal) x2 (Rect.unit (s := S1x2048x128) ![0, lo, 0] ![1, 256, 128] i0)) c0)
          (shapeCast ⟨2, ![lo, 128]⟩ (View.ld (Val := Elt Ideal) x2 (Rect.unit (s := S1x2048x128) ![0, 0, 0] ![1, lo, 128] i1)) c1)
          (k0_pay154 x0 x1 x2 x3 x4) (k0_pay155 x0 x1 x2 x3 x4) hr hrp hc hbr hbp h1 ht)
        (View.ld (Val := Elt Ideal) (e' := .f32) x4 r0_1) hrn hc ho h2 ht hs (ix3 z r e)
      = block x0 x1 x2 x3 x4 ⟨lo + r, by omega⟩ e := by
  refine (Tile.normed_at _ _ _ _ _ _ _ _ z r e).trans ?_
  rw [initial]
  unfold block head
  have hz (n : ℕ) (x : Vec Ideal S1x2048x128 .bf16) (r : Fin n) (d : Fin 128) (h : 0 + n ≤ 2048) :
      x (ix3 0 (⟨0 + r, by omega⟩ : Fin 2048) (⟨0 + d, by omega⟩ : Fin 128)) = x (ix3 0 ⟨r, by omega⟩ d) := by
    simp only [Nat.zero_add]
  have hd (x : Vec Ideal S1x2048x128 .bf16) (r : Fin 256) (d : Fin 128) :
      shapeCast S256x128 (View.ld (Val := Elt Ideal) x (Rect.unit (s := S1x2048x128) ![0, lo, 0] ![1, 256, 128] i0)) c0 (ix2 r d)
        = rows x ⟨lo + r, by omega⟩ d := (Tile.rows_at x lo 0 _ _ r d hlo (by omega)).trans (by simp only [Nat.zero_add]; rfl)
  refine congrArg (fun o => Tile.normal o _ e) (funext fun e => ?_)
  refine (late_eq (q := rows x0) (k := rows x1) (fun n => rows x2 n e) (fun _ _ => hq _) (fun _ _ => hk _) lo hlo hm (bias x0 x1 x2 x3 x4) e _ _ _ _ _ _ _
      (fun r d => (Tile.only_low _ _ _ r d (lane x0 x1 x2 x3 x4 r d)).trans ?_) (fun r d => (Tile.only_high _ _ _ r d (lane x0 x1 x2 x3 x4 r d)).trans ?_)
      (hd x1) (fun n d => (Tile.rows_at x1 0 0 _ _ n d (by omega) (by omega)).trans (hz _ _ _ _ (by omega)))
      (fun r => hd x2 r e) (fun n => (Tile.rows_at x2 0 0 _ _ n e (by omega) (by omega)).trans (hz _ _ _ _ (by omega))) r).trans ?_
  · rw [hd]; rfl
  · rw [hd]; rfl
  · rw [factor]

/-- The first tile is the block's result there. -/
theorem first_tile (hq : ∀ i, IsReal (x0 i)) (hk : ∀ i, IsReal (x1 i)) (hl hr hc hbr h1 ht hrn ho h2 hs)
    (i0) (c0) (z : Fin 1) (r : Fin 256) (e : Fin 128) :
    Tile.normed
        (Tile.firstMix
          (Tile.only 0#1 (k0_pay153 x0 x1 x2 x3 x4) (shapeCast S256x128 (View.ld (Val := Elt Ideal) x0 (Rect.unit (s := S1x2048x128) ![0, 0, 0] ![1, 256, 128] i0)) c0) hl)
          (Tile.only 1#1 (k0_pay153 x0 x1 x2 x3 x4) (shapeCast S256x128 (View.ld (Val := Elt Ideal) x0 (Rect.unit (s := S1x2048x128) ![0, 0, 0] ![1, 256, 128] i0)) c0) hl)
          (shapeCast S256x128 (View.ld (Val := Elt Ideal) x1 (Rect.unit (s := S1x2048x128) ![0, 0, 0] ![1, 256, 128] i0)) c0)
          (shapeCast S256x128 (View.ld (Val := Elt Ideal) x2 (Rect.unit (s := S1x2048x128) ![0, 0, 0] ![1, 256, 128] i0)) c0)
          (k0_pay154 x0 x1 x2 x3 x4) (k0_pay155 x0 x1 x2 x3 x4) hr hc hbr h1 ht)
        (View.ld (Val := Elt Ideal) (e' := .f32) x4 r0_1) hrn hc ho h2 ht hs (ix3 z r e)
      = block x0 x1 x2 x3 x4 ⟨0 + r, by omega⟩ e := by
  refine (Tile.normed_at _ _ _ _ _ _ _ _ z r e).trans ?_
  rw [initial]
  unfold block head
  have hd (x : Vec Ideal S1x2048x128 .bf16) (r : Fin 256) (d : Fin 128) :
      shapeCast S256x128 (View.ld (Val := Elt Ideal) x (Rect.unit (s := S1x2048x128) ![0, 0, 0] ![1, 256, 128] i0)) c0 (ix2 r d)
        = rows x ⟨0 + r, by omega⟩ d := (Tile.rows_at x 0 0 _ _ r d (by omega) (by omega)).trans (by simp only [Nat.zero_add]; rfl)
  refine congrArg (fun o => Tile.normal o _ e) (funext fun e => ?_)
  refine (first_eq (q := rows x0) (k := rows x1) (fun n => rows x2 n e) (fun _ _ => hq _) (fun _ _ => hk _) (bias x0 x1 x2 x3 x4) e _ _ _ _ _
      (fun r d => (Tile.only_low _ _ _ r d (lane x0 x1 x2 x3 x4 r d)).trans ?_) (fun r d => (Tile.only_high _ _ _ r d (lane x0 x1 x2 x3 x4 r d)).trans ?_)
      (hd x1) (fun r => hd x2 r e) r).trans ?_
  · rw [hd]; rfl
  · rw [hd]; rfl
  · rw [factor]

end Cert.Diff
end
-- ==== Proof.Diff.Block.lean ====
module

public import proofs.«01_k».proof.Proof.Diff.Tiles

@[expose] public section

set_option maxRecDepth 16384

noncomputable section

open Idealize.ShloMosaic Idealize.ShloMosaic.TcCoe Idealize.SL.Sem
open Cert.Finite Cert.Softmax Cert.DiffIdeal Cert.DiffIdeal.Gen Cert.DiffIdeal.Facts

namespace Cert.Diff

/-- What a grid step leaves at an index of its block of the result. -/
theorem out_at (a b v : Vec Ideal S1x2048x128 .bf16) (l : Vec Ideal S4x64 .f32) (y : Vec Ideal S1x1 .f32) (hq : ∀ i, IsReal (a i))
    (hk : ∀ i, IsReal (b i)) (z : Fin 1) (p : Fin 2048) (e : Fin 128) : out0_5 (F := Ideal) a b v l y (ix3 z p e) = block a b v l y p e := by
  unfold out0_5
  canon_tiles x h
  all_goals
    idx_vars x
    obtain rfl : e = x2 := Fin.ext h2
  · rw [show p = ⟨1792 + x1, Nat.add_lt_of_lt_sub (by omega)⟩ from Fin.ext h1]
    exact late_tile a b v l y hq hk 1792 (by omega) rfl broadcasts_S256x128_S256x128 reduces_S256x256_S256 reduces_S256x1792_S256 shapeCasts_S256_S256x1
      broadcasts_S256x1_S256x256 broadcasts_S256x1_S256x1792 broadcasts_S1x1_S256x1 bitsLt_bf16_f32 reduces_S256x128_S256 broadcasts_S256x1_S256x128
      broadcasts_S1x1_S256x128 shapeCasts_S256x128_S1x256x128 inb_S1x2048x128_S1x256x128_0_1792_0 inb_S1x2048x128_S1x1792x128_0_0_0
      shapeCasts_S1x256x128_S256x128 shapeCasts_S1x1792x128_S1792x128 x0 x1 e
  · rw [show p = ⟨1536 + x1, Nat.add_lt_of_lt_sub (by omega)⟩ from Fin.ext h1]
    exact late_tile a b v l y hq hk 1536 (by omega) rfl broadcasts_S256x128_S256x128 reduces_S256x256_S256 reduces_S256x1536_S256 shapeCasts_S256_S256x1
      broadcasts_S256x1_S256x256 broadcasts_S256x1_S256x1536 broadcasts_S1x1_S256x1 bitsLt_bf16_f32 reduces_S256x128_S256 broadcasts_S256x1_S256x128
      broadcasts_S1x1_S256x128 shapeCasts_S256x128_S1x256x128 inb_S1x2048x128_S1x256x128_0_1536_0 inb_S1x2048x128_S1x1536x128_0_0_0
      shapeCasts_S1x256x128_S256x128 shapeCasts_S1x1536x128_S1536x128 x0 x1 e
  · rw [show p = ⟨1280 + x1, Nat.add_lt_of_lt_sub (by omega)⟩ from Fin.ext h1]
    exact late_tile a b v l y hq hk 1280 (by omega) rfl broadcasts_S256x128_S256x128 reduces_S256x256_S256 reduces_S256x1280_S256 shapeCasts_S256_S256x1
      broadcasts_S256x1_S256x256 broadcasts_S256x1_S256x1280 broadcasts_S1x1_S256x1 bitsLt_bf16_f32 reduces_S256x128_S256 broadcasts_S256x1_S256x128
      broadcasts_S1x1_S256x128 shapeCasts_S256x128_S1x256x128 inb_S1x2048x128_S1x256x128_0_1280_0 inb_S1x2048x128_S1x1280x128_0_0_0
      shapeCasts_S1x256x128_S256x128 shapeCasts_S1x1280x128_S1280x128 x0 x1 e
  · rw [show p = ⟨1024 + x1, Nat.add_lt_of_lt_sub (by omega)⟩ from Fin.ext h1]
    exact late_tile a b v l y hq hk 1024 (by omega) rfl broadcasts_S256x128_S256x128 reduces_S256x256_S256 reduces_S256x1024_S256 shapeCasts_S256_S256x1
      broadcasts_S256x1_S256x256 broadcasts_S256x1_S256x1024 broadcasts_S1x1_S256x1 bitsLt_bf16_f32 reduces_S256x128_S256 broadcasts_S256x1_S256x128
      broadcasts_S1x1_S256x128 shapeCasts_S256x128_S1x256x128 inb_S1x2048x128_S1x256x128_0_1024_0 inb_S1x2048x128_S1x1024x128_0_0_0
      shapeCasts_S1x256x128_S256x128 shapeCasts_S1x1024x128_S1024x128 x0 x1 e
  · rw [show p = ⟨768 + x1, Nat.add_lt_of_lt_sub (by omega)⟩ from Fin.ext h1]
    exact late_tile a b v l y hq hk 768 (by omega) rfl broadcasts_S256x128_S256x128 reduces_S256x256_S256 reduces_S256x768_S256 shapeCasts_S256_S256x1
      broadcasts_S256x1_S256x256 broadcasts_S256x1_S256x768 broadcasts_S1x1_S256x1 bitsLt_bf16_f32 reduces_S256x128_S256 broadcasts_S256x1_S256x128
      broadcasts_S1x1_S256x128 shapeCasts_S256x128_S1x256x128 inb_S1x2048x128_S1x256x128_0_768_0 inb_S1x2048x128_S1x768x128_0_0_0
      shapeCasts_S1x256x128_S256x128 shapeCasts_S1x768x128_S768x128 x0 x1 e
  · rw [show p = ⟨512 + x1, Nat.add_lt_of_lt_sub (by omega)⟩ from Fin.ext h1]
    exact late_tile a b v l y hq hk 512 (by omega) rfl broadcasts_S256x128_S256x128 reduces_S256x256_S256 reduces_S256x512_S256 shapeCasts_S256_S256x1
      broadcasts_S256x1_S256x256 broadcasts_S256x1_S256x512 broadcasts_S1x1_S256x1 bitsLt_bf16_f32 reduces_S256x128_S256 broadcasts_S256x1_S256x128
      broadcasts_S1x1_S256x128 shapeCasts_S256x128_S1x256x128 inb_S1x2048x128_S1x256x128_0_512_0 inb_S1x2048x128_S1x512x128_0_0_0
      shapeCasts_S1x256x128_S256x128 shapeCasts_S1x512x128_S512x128 x0 x1 e
  · rw [show p = ⟨256 + x1, Nat.add_lt_of_lt_sub (by omega)⟩ from Fin.ext h1]
    exact late_tile a b v l y hq hk 256 (by omega) rfl broadcasts_S256x128_S256x128 reduces_S256x256_S256 reduces_S256x256_S256 shapeCasts_S256_S256x1
      broadcasts_S256x1_S256x256 broadcasts_S256x1_S256x256 broadcasts_S1x1_S256x1 bitsLt_bf16_f32 reduces_S256x128_S256 broadcasts_S256x1_S256x128
      broadcasts_S1x1_S256x128 shapeCasts_S256x128_S1x256x128 inb_S1x2048x128_S1x256x128_0_256_0 inb_S1x2048x128_S1x256x128_0_0_0
      shapeCasts_S1x256x128_S256x128 shapeCasts_S1x256x128_S256x128 x0 x1 e
  · rw [show p = ⟨0 + x1, Nat.add_lt_of_lt_sub (by omega)⟩ from Fin.ext (h1.trans (Nat.zero_add _).symm)]
    exact first_tile a b v l y hq hk broadcasts_S256x128_S256x128 reduces_S256x256_S256 shapeCasts_S256_S256x1 broadcasts_S256x1_S256x256
      broadcasts_S1x1_S256x1 bitsLt_bf16_f32 reduces_S256x128_S256 broadcasts_S256x1_S256x128 broadcasts_S1x1_S256x128
      shapeCasts_S256x128_S1x256x128 inb_S1x2048x128_S1x256x128_0_0_0 shapeCasts_S1x256x128_S256x128 x0 x1 e

end Cert.Diff
end
-- ==== Proof.Diff.Array.lean ====
module

public import proofs.«01_k».proof.Proof.Diff.Block

@[expose] public section

set_option maxRecDepth 16384

noncomputable section

open Idealize.ShloMosaic Idealize.ShloMosaic.TcCoe Idealize.SL.Sem
open Idealize.ShloMosaic.Pipeline (Dat)
open Cert.Finite

namespace Cert.DiffIdeal.Array

open Cert.DiffIdeal Cert.DiffIdeal.Gen

variable (m : (ℓ : Loc nD τ sig) → Buf (Elt Ideal) ℓ)

/-- Which block of its array each window has at grid point `t`. -/
theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![0, 0] ∧ win0_4.index t = ![0, 0]
    ∧ win0_5.index t = ![t.val / 4, 0, t.val % 4] :=
  (by decide +kernel : ∀ t : Fin grid0.N, _)

/-- Heads of equal queries, keys, values and parameters are equal. -/
theorem _root_.Cert.Diff.head_congr {q q' k k' v v' : Fin 2048 → Fin 128 → EReal} {l l' : Fin 4 → Fin 64 → EReal} {z z' : EReal} {p p' : Fin 2048}
    {e e' : Fin 128} (hq : ∀ p d, q p d = q' p d) (hk : ∀ p d, k p d = k' p d) (hv : ∀ p d, v p d = v' p d) (hl : ∀ i d, l i d = l' i d)
    (hz : z = z') (hp : p = p') (he : e = e') :
    Diff.head q k v (Diff.lambda l z) z p e = Diff.head q' k' v' (Diff.lambda l' z') z' p' e' := by
  obtain rfl : q = q' := funext fun p => funext (hq p)
  obtain rfl : k = k' := funext fun p => funext (hk p)
  obtain rfl : v = v' := funext fun p => funext (hv p)
  obtain rfl : l = l' := funext fun p => funext (hl p)
  rw [hz, hp, he]

/-- The result array after the run is the whole result, where the queries and keys are real. -/
theorem final (c : Dev nD) (hq : ∀ i : S8x2048x512.Idx, IsReal (m ((c : Thread nD τ).loc main_arg0) i))
    (hk : ∀ i : S8x2048x512.Idx, IsReal (m ((c : Thread nD τ).loc main_arg1) i)) : (dats m 0 c).arrAt 5 (cfgs 0).N
    = Diff.whole (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  idx_vars y
  refine (Diff.out_at _ _ _ _ _ (fun i => ?_) (fun i => ?_) _ _ _).trans ?_
  · exact hq _
  · exact hk _
  unfold Diff.whole Diff.at3 Diff.block
  refine Diff.head_congr (fun p d => ?_) (fun p d => ?_) (fun p d => ?_) (fun i d => ?_) ?_ ?_ ?_
  · blk_point [iblk, V, Diff.rows, Diff.lanes, idx t]
  · blk_point [iblk, V, Diff.rows, Diff.lanes, idx t]
  · blk_point [iblk, V, Diff.rows, Diff.lanes, idx t]
  · blk_point [iblk, V, idx t]
  · blk_point [iblk, V, idx t]
  · apply Fin.ext; blk_simp [idx t]; done
  · apply Fin.ext
    blk_simp [idx t]
    show (y2 : ℕ) = ((t : ℕ) % 4 * 128 + (y2 : ℕ)) % 128
    omega

end Cert.DiffIdeal.Array
end
-- ==== Proof.Diff.Ref.lean ====
module

public import proofs.«01_k».proof.Proof.Gen.DiffRefIdeal.Run
public import proofs.«01_k».proof.Proof.Diff.Heads
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Finite Cert.Softmax

namespace Cert.DiffRefIdeal.Block

open Cert.DiffRefIdeal Cert.DiffRefIdeal.Gen Cert.DiffRefIdeal.Facts

/-- Queries or keys by batch entry, position, head, map and lane. -/
def parted (x : FVec Ideal S8x2048x512 .bf16) : FVec Ideal S8x2048x4x2x64 .f32 :=
  shapeCast _ (extf .f32 x bitsLt_bf16_f32) shapeCasts_S8x2048x512_S8x2048x4x2x64

/-- The values by batch entry, position, head and lane. -/
def valued (x : FVec Ideal S8x2048x512 .bf16) : FVec Ideal S8x2048x4x128 .f32 :=
  shapeCast _ (extf .f32 x bitsLt_bf16_f32) shapeCasts_S8x2048x512_S8x2048x4x128

/-- Each query's product with each key. -/
def products (q k : FVec Ideal S8x2048x4x2x64 .f32) : FVec Ideal S8x4x2x2048x2048 .f32 :=
  Host.dotGeneral dot_S8x2048x4x2x64_S8x2048x4x2x64_S8x4x2x2048x2048_4_4_1_1_023_023 none q k

/-- The group of 64 positions that each position is in. -/
def groups : IVec S2048 32 :=
  Host.divsi (iotaInDim S2048 32 0) (broadcastInDim S2048 ![] bcast_S_S2048 (constantI S_ 32 64#32))

/-- Which keys each query sees. -/
def mask : IVec S2048x2048 1 :=
  cmpi .sle (broadcastInDim S2048x2048 ![0, 1] bcast_S1x2048_S2048x2048_0_1 (broadcastInDim S1x2048 ![1] bcast_S2048_S1x2048_1 groups))
    (broadcastInDim S2048x2048 ![0, 1] bcast_S2048x1_S2048x2048_0_1 (broadcastInDim S2048x1 ![0] bcast_S2048_S2048x1_0 groups))

/-- The scores where a query sees a key, −∞ elsewhere. -/
def masked (w : IVec S2048x2048 1) (s : FVec Ideal S8x4x2x2048x2048 .f32) : FVec Ideal S8x4x2x2048x2048 .f32 :=
  select (broadcastInDim S8x4x2x2048x2048 ![3, 4] bcast_S2048x2048_S8x4x2x2048x2048_3_4 w) s
    (broadcastInDim S8x4x2x2048x2048 ![] bcast_S_S8x4x2x2048x2048 (id (constant S_ .f32 0xFF800000#32)))

/-- One number for each row, at all of the row's positions. -/
def spread (r : FVec Ideal S8x4x2x2048 .f32) : FVec Ideal S8x4x2x2048x2048 .f32 :=
  broadcastInDim S8x4x2x2048x2048 ![0, 1, 2, 3, 4] bcast_S8x4x2x2048x1_S8x4x2x2048x2048_0_1_2_3_4
    (broadcastInDim S8x4x2x2048x1 ![0, 1, 2, 3] bcast_S8x4x2x2048_S8x4x2x2048x1_0_1_2_3 r)

/-- Each row's largest score. -/
def found (s : FVec Ideal S8x4x2x2048x2048 .f32) : FVec Ideal S8x4x2x2048 .f32 :=
  Host.reduce FloatOps.maximumf s (constant S_ .f32 0xFF800000#32) reducesTo_S8x4x2x2048x2048_S8x4x2x2048_d4 h_S_

/-- Each row's largest score, no less than the least value there is. -/
def largest (r : FVec Ideal S8x4x2x2048 .f32) : FVec Ideal S8x4x2x2048 .f32 :=
  maximumf (broadcastInDim S8x4x2x2048 ![] bcast_S_S8x4x2x2048 (constant S_ .f32 0xFF800000#32)) r

/-- The exponentials of the scores less their rows' largest. -/
def parts (s : FVec Ideal S8x4x2x2048x2048 .f32) : FVec Ideal S8x4x2x2048x2048 .f32 :=
  Host.exp (subf s (spread (largest (found s))))

/-- Each row's sum. -/
def sums (p : FVec Ideal S8x4x2x2048x2048 .f32) : FVec Ideal S8x4x2x2048 .f32 :=
  Host.reduceAdd p (constant S_ .f32 0x00000000#32) reducesTo_S8x4x2x2048x2048_S8x4x2x2048_d4 h_S_

/-- Each exponential over its row's sum. -/
def weights (p : FVec Ideal S8x4x2x2048x2048 .f32) : FVec Ideal S8x4x2x2048x2048 .f32 := Host.divf p (spread (sums p))

/-- The first map of each head. -/
def map0 (w : FVec Ideal S8x4x2x2048x2048 .f32) : FVec Ideal S8x4x2048x2048 .f32 :=
  shapeCast _ (extractStridedSlice S8x4x1x2048x2048 ![0, 0, 0, 0, 0] w slices_S8x4x2x2048x2048_S8x4x1x2048x2048_0_0_0_0_0)
    shapeCasts_S8x4x1x2048x2048_S8x4x2048x2048

/-- The second map of each head. -/
def map1 (w : FVec Ideal S8x4x2x2048x2048 .f32) : FVec Ideal S8x4x2048x2048 .f32 :=
  shapeCast _ (extractStridedSlice S8x4x1x2048x2048 ![0, 0, 1, 0, 0] w slices_S8x4x2x2048x2048_S8x4x1x2048x2048_0_0_1_0_0)
    shapeCasts_S8x4x1x2048x2048_S8x4x2048x2048

/-- The exponential of the product of two rows of parameters. -/
def grown (a b : FVec Ideal S1x64 .f32) : FVec Ideal S_ .f32 :=
  Host.exp (Host.reduceAdd (mulf (shapeCast _ a shapeCasts_S1x64_S64) (shapeCast _ b shapeCasts_S1x64_S64)) (constant S_ .f32 0x00000000#32)
    reducesTo_S64_S_d0 h_S_)

/-- The second map's factor. -/
def factor (l : FVec Ideal S4x64 .f32) (z : FVec Ideal S1x1 .f32) : FVec Ideal S_ .f32 :=
  addf (subf (grown (extractStridedSlice S1x64 ![0, 0] l slices_S4x64_S1x64_0_0) (extractStridedSlice S1x64 ![1, 0] l slices_S4x64_S1x64_1_0))
    (grown (extractStridedSlice S1x64 ![2, 0] l slices_S4x64_S1x64_2_0) (extractStridedSlice S1x64 ![3, 0] l slices_S4x64_S1x64_3_0)))
    (shapeCast _ z shapeCasts_S1x1_S_)

/-- The first map less the factor times the second. -/
def differences (f : FVec Ideal S_ .f32) (w : FVec Ideal S8x4x2x2048x2048 .f32) : FVec Ideal S8x4x2048x2048 .f32 :=
  subf (map0 w) (mulf (broadcastInDim S8x4x2048x2048 ![] bcast_S_S8x4x2048x2048 f) (map1 w))

/-- The weighted values. -/
def averaged (v : FVec Ideal S8x2048x4x128 .f32) (w : FVec Ideal S8x4x2048x2048 .f32) : FVec Ideal S8x2048x4x128 .f32 :=
  transpose S8x2048x4x128 [0, 3, 1, 2] (Host.dotGeneral dot_S8x2048x4x128_S8x4x2048x2048_S8x4x128x2048_1_3_3_2_02_01 none v w)
    transposes_S8x4x128x2048_S8x2048x4x128_0_3_1_2

/-- Each head's sum of squares. -/
def squares (o : FVec Ideal S8x2048x4x128 .f32) : FVec Ideal S8x2048x4 .f32 :=
  Host.reduceAdd (mulf o o) (constant S_ .f32 0x00000000#32) reducesTo_S8x2048x4x128_S8x2048x4_d3 h_S_

/-- Each head over the root of its mean square, times one less `z`, the heads side by side. -/
def normed (o : FVec Ideal S8x2048x4x128 .f32) (s : FVec Ideal S8x2048x4 .f32) (z : FVec Ideal S1x1 .f32) : FVec Ideal S8x2048x512 .bf16 :=
  truncf .bf16 (shapeCast _ (mulf (mulf o (broadcastInDim S8x2048x4x128 ![0, 1, 2, 3] bcast_S8x2048x4x1_S8x2048x4x128_0_1_2_3
      (Host.rsqrt (addf (Host.divf (broadcastInDim S8x2048x4x1 ![0, 1, 2] bcast_S8x2048x4_S8x2048x4x1_0_1_2 s)
        (broadcastInDim S8x2048x4x1 ![] bcast_S_S8x2048x4x1 (constant S_ .f32 0x43000000#32)))
        (broadcastInDim S8x2048x4x1 ![] bcast_S_S8x2048x4x1 (constant S_ .f32 0x358637BD#32))))))
    (broadcastInDim S8x2048x4x128 ![] bcast_S_S8x2048x4x128 (subf (constant S_ .f32 0x3F800000#32) (shapeCast _ z shapeCasts_S1x1_S_))))
    shapeCasts_S8x2048x4x128_S8x2048x512) bitsLt_bf16_f32

/-- The reference's mixed values, from its arguments. -/
def mixedAll (q k v : FVec Ideal S8x2048x512 .bf16) (l : FVec Ideal S4x64 .f32) (z : FVec Ideal S1x1 .f32) : FVec Ideal S8x2048x4x128 .f32 :=
  averaged (valued v) (differences (factor l z) (weights (parts (masked mask (products (parted q) (parted k))))))

/-- The reference's result is the composition of its stages. -/
theorem stages (m : (ℓ : Loc nD τ sig) → Buf (Elt Ideal) ℓ) (c : Dev nD) :
    (Value.res_out0 m c : FVec Ideal S8x2048x512 .bf16)
      = normed (mixedAll (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)))
          (squares (mixedAll (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))))
          (m ((c.tc : Thread nD τ).loc main_arg4)) := by
  rfl

theorem parted_at (x : FVec Ideal S8x2048x512 .bf16) (b : Fin 8) (t : Fin 2048) (a : Fin 4) (j : Fin 2) (d : Fin 64) :
    parted x (ix5 b t a j d) = x (ix3 b t ⟨a * 128 + j * 64 + d, by omega⟩) := by
  pointwise [parted]

theorem valued_at (x : FVec Ideal S8x2048x512 .bf16) (b : Fin 8) (t : Fin 2048) (a : Fin 4) (d : Fin 128) :
    valued x (ix4 b t a d) = x (ix3 b t ⟨a * 128 + d, by omega⟩) := by
  pointwise [valued]

theorem products_at (q k : FVec Ideal S8x2048x4x2x64 .f32) (b : Fin 8) (a : Fin 4) (j : Fin 2) (t n : Fin 2048) :
    products q k (ix5 b a j t n) = ∑ d : Fin 64, q (ix5 b t a j d) * k (ix5 b n a j d) := by
  pointwise [products]

/-- The division by 64 of a position's number. -/
theorem quotient : ∀ n : Fin 2048, IntOp.divsi .host (BitVec.ofNat 32 n) 64#32 = BitVec.ofNat 32 ((n : ℕ) / 64) := by decide +kernel

/-- Comparing two groups' numbers. -/
theorem group_le : ∀ a b : Fin 32, IntOp.cmpi .sle (BitVec.ofNat 32 a) (BitVec.ofNat 32 b) = if (a : ℕ) ≤ (b : ℕ) then 1#1 else 0#1 := by
  decide +kernel

theorem groups_at (n : Fin 2048) : groups (ix1 n) = BitVec.ofNat 32 ((n : ℕ) / 64) := by
  refine Eq.trans ?_ (quotient n)
  pointwise [groups]

theorem mask_at (t n : Fin 2048) : mask (ix2 t n) = if (n : ℕ) / 64 ≤ (t : ℕ) / 64 then 1#1 else 0#1 := by
  have h : mask (ix2 t n) = IntOp.cmpi .sle (groups (ix1 n)) (groups (ix1 t)) := by pointwise [mask]
  rw [h, groups_at, groups_at]
  exact group_le ⟨(n : ℕ) / 64, by omega⟩ ⟨(t : ℕ) / 64, by omega⟩

theorem masked_at (w : IVec S2048x2048 1) (s : FVec Ideal S8x4x2x2048x2048 .f32) (b : Fin 8) (a : Fin 4) (j : Fin 2) (t n : Fin 2048)
    (h : w (ix2 t n) = if (n : ℕ) / 64 ≤ (t : ℕ) / 64 then 1#1 else 0#1) :
    masked w s (ix5 b a j t n) = if (n : ℕ) / 64 ≤ (t : ℕ) / 64 then s (ix5 b a j t n) else ⊥ := by
  pointwise [masked]
  rw [h, show id (constant (F := Ideal) S_ .f32 0xFF800000#32) ix0 = ⊥ from const_neg_inf]
  split <;> rfl

theorem spread_at (r : FVec Ideal S8x4x2x2048 .f32) (b : Fin 8) (a : Fin 4) (j : Fin 2) (t n : Fin 2048) :
    spread r (ix5 b a j t n) = r (ix4 b a j t) := by
  pointwise [spread]

theorem found_at (s : FVec Ideal S8x4x2x2048x2048 .f32) (b : Fin 8) (a : Fin 4) (j : Fin 2) (t : Fin 2048) :
    found s (ix4 b a j t) = top (fun n => s (ix5 b a j t n)) := by
  pointwise [found]
  rw [const_neg_inf]
  rfl

theorem largest_at (r : FVec Ideal S8x4x2x2048 .f32) (b : Fin 8) (a : Fin 4) (j : Fin 2) (t : Fin 2048) :
    largest r (ix4 b a j t) = r (ix4 b a j t) := by
  pointwise [largest]
  rw [const_neg_inf, max_bot_left]

theorem parts_at (s : FVec Ideal S8x4x2x2048x2048 .f32) (b : Fin 8) (a : Fin 4) (j : Fin 2) (t n : Fin 2048) :
    parts s (ix5 b a j t n) = part (fun n => s (ix5 b a j t n)) n := by
  have h : parts s (ix5 b a j t n) = Ideal.exp (s (ix5 b a j t n) - spread (largest (found s)) (ix5 b a j t n)) := rfl
  rw [h, spread_at, largest_at, found_at, part]

theorem sums_at (p : FVec Ideal S8x4x2x2048x2048 .f32) (b : Fin 8) (a : Fin 4) (j : Fin 2) (t : Fin 2048) :
    sums p (ix4 b a j t) = ∑ n : Fin 2048, p (ix5 b a j t n) := by
  pointwise [sums]

theorem weights_at (s : FVec Ideal S8x4x2x2048x2048 .f32) (b : Fin 8) (a : Fin 4) (j : Fin 2) (t n : Fin 2048) :
    weights (parts s) (ix5 b a j t n) = weight (fun n => s (ix5 b a j t n)) n := by
  have h : weights (parts s) (ix5 b a j t n) = Ideal.div (parts s (ix5 b a j t n)) (spread (sums (parts s)) (ix5 b a j t n)) := rfl
  rw [h, spread_at, sums_at, weight, total]
  simp only [parts_at]

theorem map0_at (w : FVec Ideal S8x4x2x2048x2048 .f32) (b : Fin 8) (a : Fin 4) (t n : Fin 2048) :
    map0 w (ix4 b a t n) = w (ix5 b a 0 t n) := by
  pointwise [map0]

theorem map1_at (w : FVec Ideal S8x4x2x2048x2048 .f32) (b : Fin 8) (a : Fin 4) (t n : Fin 2048) :
    map1 w (ix4 b a t n) = w (ix5 b a 1 t n) := by
  pointwise [map1]

theorem grown_at (a b : FVec Ideal S1x64 .f32) : grown a b ix0 = Ideal.exp (∑ d : Fin 64, a (ix2 0 d) * b (ix2 0 d)) := by
  pointwise [grown]

theorem factor_at (l : FVec Ideal S4x64 .f32) (z : FVec Ideal S1x1 .f32) :
    factor l z ix0 = Diff.lambda (fun i d => l (ix2 i d)) (z (ix2 0 0)) := by
  pointwise [factor]
  rw [grown_at, grown_at]
  pointwise []
  rfl

theorem differences_at (f : FVec Ideal S_ .f32) (w : FVec Ideal S8x4x2x2048x2048 .f32) (b : Fin 8) (a : Fin 4) (t n : Fin 2048) :
    differences f w (ix4 b a t n) = w (ix5 b a 0 t n) - f ix0 * w (ix5 b a 1 t n) := by
  have h : differences f w (ix4 b a t n) = map0 w (ix4 b a t n) - f ix0 * map1 w (ix4 b a t n) := by pointwise [differences]
  rw [h, map0_at, map1_at]

theorem averaged_at (v : FVec Ideal S8x2048x4x128 .f32) (w : FVec Ideal S8x4x2048x2048 .f32) (b : Fin 8) (t : Fin 2048) (a : Fin 4) (e : Fin 128) :
    averaged v w (ix4 b t a e) = ∑ n : Fin 2048, v (ix4 b n a e) * w (ix4 b a t n) := by
  pointwise [averaged]

theorem squares_at (o : FVec Ideal S8x2048x4x128 .f32) (b : Fin 8) (t : Fin 2048) (a : Fin 4) :
    squares o (ix3 b t a) = ∑ e : Fin 128, o (ix4 b t a e) * o (ix4 b t a e) := by
  pointwise [squares]

theorem normed_at (o : FVec Ideal S8x2048x4x128 .f32) (s : FVec Ideal S8x2048x4 .f32) (z : FVec Ideal S1x1 .f32) (b : Fin 8) (t : Fin 2048) (j : Fin 512) :
    normed o s z (ix3 b t j)
      = o (ix4 b t ⟨j / 128, by omega⟩ ⟨j % 128, by omega⟩)
          * Ideal.rsqrt (Ideal.div (s (ix3 b t ⟨j / 128, by omega⟩)) (Ideal.ofBits .f32 0x43000000#32) + Ideal.ofBits .f32 0x358637BD#32)
          * (Ideal.ofBits .f32 0x3F800000#32 - z (ix2 0 0)) := by
  pointwise [normed]

/-- A product over the 128 lanes of which the ones from 64 on are zero is one over the first 64. -/
theorem low_sum (q k : Fin 2048 → Fin 128 → EReal) (p n : Fin 2048) :
    ∑ d : Fin 128, Diff.low q p d * k n d = ∑ d : Fin 64, q p ⟨d, by omega⟩ * k n ⟨d, by omega⟩ := by
  rw [show (∑ d : Fin 128, Diff.low q p d * k n d) = ∑ d : Fin (64 + 64), Diff.low q p d * k n d from rfl, Fin.sum_univ_add]
  rw [Finset.sum_eq_zero (s := Finset.univ) (f := fun d : Fin 64 => Diff.low q p (Fin.natAdd 64 d) * k n (Fin.natAdd 64 d)) fun d _ => by
    rw [Diff.low, if_neg (by simp), zero_mul], add_zero]
  refine Finset.sum_congr rfl fun d _ => ?_
  rw [Diff.low, if_pos (by simp)]
  rfl

/-- A product over the 128 lanes of which the ones below 64 are zero is one over the last 64. -/
theorem high_sum (q k : Fin 2048 → Fin 128 → EReal) (p n : Fin 2048) :
    ∑ d : Fin 128, Diff.high q p d * k n d = ∑ d : Fin 64, q p ⟨64 + d, by omega⟩ * k n ⟨64 + d, by omega⟩ := by
  rw [show (∑ d : Fin 128, Diff.high q p d * k n d) = ∑ d : Fin (64 + 64), Diff.high q p d * k n d from rfl, Fin.sum_univ_add]
  rw [Finset.sum_eq_zero (s := Finset.univ) (f := fun d : Fin 64 => Diff.high q p (Fin.castAdd 64 d) * k n (Fin.castAdd 64 d)) fun d _ => by
    rw [Diff.high, if_pos (by simp), zero_mul], zero_add]
  refine Finset.sum_congr rfl fun d _ => ?_
  rw [Diff.high, if_neg (by simp)]
  rfl

/-- The first map's scores. -/
theorem scores_low (q k : FVec Ideal S8x2048x512 .bf16) (b : Fin 8) (a : Fin 4) (t n : Fin 2048) :
    masked mask (products (parted q) (parted k)) (ix5 b a 0 t n) = Mla.score (Diff.low (Diff.lanes q b a a.2)) (Diff.lanes k b a a.2) t n := by
  rw [masked_at _ _ _ _ _ _ _ (mask_at _ _), products_at, Mla.score, low_sum]
  refine if_congr Iff.rfl (Finset.sum_congr rfl fun d _ => ?_) rfl
  rw [parted_at, parted_at]
  unfold Diff.lanes
  refine congrArg₂ (fun i j => q (ix3 b t i) * k (ix3 b n j)) (Fin.ext ?_) (Fin.ext ?_) <;> simp

/-- The second map's scores. -/
theorem scores_high (q k : FVec Ideal S8x2048x512 .bf16) (b : Fin 8) (a : Fin 4) (t n : Fin 2048) :
    masked mask (products (parted q) (parted k)) (ix5 b a 1 t n) = Mla.score (Diff.high (Diff.lanes q b a a.2)) (Diff.lanes k b a a.2) t n := by
  rw [masked_at _ _ _ _ _ _ _ (mask_at _ _), products_at, Mla.score, high_sum]
  refine if_congr Iff.rfl (Finset.sum_congr rfl fun d _ => ?_) rfl
  rw [parted_at, parted_at]
  unfold Diff.lanes
  refine congrArg₂ (fun i j => q (ix3 b t i) * k (ix3 b n j)) (Fin.ext ?_) (Fin.ext ?_) <;> simp [Nat.add_assoc]

/-- The mixed values at an index. -/
theorem mixedAll_at (q k v : FVec Ideal S8x2048x512 .bf16) (l : FVec Ideal S4x64 .f32) (z : FVec Ideal S1x1 .f32) (b : Fin 8) (t : Fin 2048) (a : Fin 4)
    (e : Fin 128) : mixedAll q k v l z (ix4 b t a e)
      = Diff.mix (Diff.lanes q b a a.2) (Diff.lanes k b a a.2) (fun n => Diff.lanes v b a a.2 n e)
          (Diff.lambda (fun i d => l (ix2 i d)) (z (ix2 0 0))) t := by
  unfold mixedAll
  rw [averaged_at]
  simp only [differences_at, weights_at, scores_low, scores_high, valued_at, factor_at]
  rfl

/-- The reference's result is the whole result as the layer defines it. -/
theorem ref (m : (ℓ : Loc nD τ sig) → Buf (Elt Ideal) ℓ) (c : Dev nD) :
    (Value.res_out0 m c : FVec Ideal S8x2048x512 .bf16)
      = Diff.whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [stages]
  generalize m ((c.tc : Thread nD τ).loc main_arg0) = q
  generalize m ((c.tc : Thread nD τ).loc main_arg1) = k
  generalize m ((c.tc : Thread nD τ).loc main_arg2) = v
  generalize m ((c.tc : Thread nD τ).loc main_arg3) = l
  generalize m ((c.tc : Thread nD τ).loc main_arg4) = z
  change FVec Ideal S8x2048x512 .bf16 at q k v
  change FVec Ideal S4x64 .f32 at l
  change FVec Ideal S1x1 .f32 at z
  funext i
  idx_vars i
  rw [normed_at, squares_at]
  simp only [mixedAll_at]
  rfl

end Cert.DiffRefIdeal.Block
end
-- ==== Proof.Diff.Claims.lean ====
module

public import proofs.«01_k».proof.Defs
public import proofs.«01_k».proof.Proof.Diff.Array
public import proofs.«01_k».proof.Proof.Diff.Ref
public import proofs.«01_k».proof.Proof.Finite.Decode
public import proofs.«01_k».proof.Proof.Gen.Diff.Frame
public import proofs.«01_k».proof.Proof.Gen.DiffIdeal.Frame
public import proofs.«01_k».proof.Proof.Gen.DiffRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem
namespace Cert.Diff.Claims

variable [Cert.Pre_diff_scores_finite.Facts]

/-- The kernel ends with its arguments as they were and every counter at zero. -/
theorem frame_kernel : Cert.quiescent_Diff := fun m ρ _ => Cert.Diff.Gen.frame m ρ

/-- The same of the kernel over the extended reals. -/
theorem frame_ideal : Cert.quiescent_DiffIdeal := fun m ρ _ => Cert.DiffIdeal.Gen.frame m ρ

/-- The same under the precondition. -/
theorem frame_ideal_pre : Cert.quiescent_DiffIdeal_pre_diff_scores_finite := fun m ρ _ => Cert.DiffIdeal.Gen.frame m ρ

/-- The same of the reference. -/
theorem frame_reference : Cert.quiescent_DiffRefIdeal := fun m ρ _ =>
  (θ_run _ _ _).mono (fun r h => ⟨fun c => (h c).2, sem_eq_zero_of_no_sems (by decide) r.2⟩) (Cert.DiffRefIdeal.Value.run m ρ)

/-- The same of the reference under the precondition. -/
theorem frame_reference_pre : Cert.quiescent_DiffRefIdeal_pre_diff_scores_finite := fun m ρ _ =>
  (θ_run _ _ _).mono (fun r h => ⟨fun c => (h c).2, sem_eq_zero_of_no_sems (by decide) r.2⟩) (Cert.DiffRefIdeal.Value.run m ρ)

/-- The one constant replaced, the mask's, stands for the least extended real. -/
theorem preserved : Cert.preserves_Diff_DiffIdeal := IdealRules.named_const.statement Cert.DiffIdeal.κ "mask" .f32 0xF149F2CA#32 ⊥ rfl

/-- The precondition of the differential attention says that its queries and keys are real numbers. -/
theorem real_arguments {q k v : FVec Ideal ⟨3, ![8, 2048, 512]⟩ .bf16} {l : FVec Ideal ⟨2, ![4, 64]⟩ .f32}
    {z : FVec Ideal ⟨2, ![1, 1]⟩ .f32}
    (h : Cert.Pre_diff_scores_finite.fn (F := Ideal) q k v l z = fun _ => 1#1) : (∀ i, Finite.IsReal (q i)) ∧ ∀ i, Finite.IsReal (k i) := by
  obtain ⟨hq, hk⟩ := Finite.both h
  exact ⟨Finite.isReal_of_all hq, Finite.isReal_of_all hk⟩

/-- Over the extended reals the kernel's result is the reference's, for real queries and keys. -/
theorem algebraic : Cert.algebraic_DiffIdeal_DiffRefIdeal_pre_diff_scores_finite := by
  pair_intro
  · run_from Cert.DiffIdeal.Gen.run_main m g
  · run_from Cert.DiffRefIdeal.Value.run m' g'
    refine (Cert.DiffRefIdeal.Block.ref m' c).trans ?_
    obtain ⟨hq, hk⟩ := real_arguments (hpre c)
    refine Eq.trans ?_ (Cert.DiffIdeal.Array.final m c hq hk).symm
    obtain ⟨h0, h1, h2, h3, h4⟩ := hagree c
    rw [h0, h1, h2, h3, h4]

end Cert.Diff.Claims
end
-- ==== Proof.Ffn.Block.lean ====
module

public import proofs.«01_k».proof.Proof.Gen.FfnIdeal.Value
public import proofs.«01_k».proof.Proof.Gen.FfnRefIdeal.Run
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Rows

namespace Cert.Ffn

/-- The half-weighted gated feed-forward row: the normalized row through the gate and up matrices, the gate times its
    logistic times the up value, through the down matrix, normalized, halved and added to the row. -/
def row (x g0 g1 : Fin 1024 → EReal) (wg wu : Fin 1024 → Fin 2816 → EReal) (w2 : Fin 2816 → Fin 1024 → EReal)
    (j : Fin 1024) : EReal :=
  x j + Ideal.ofBits .f32 0x3F000000#32 *
    rms (vecMul (fun f => vecMul (rms x g0) wg f * Ideal.div 1 (1 + Ideal.exp (-vecMul (rms x g0) wg f)) * vecMul (rms x g0) wu f) w2) g1 j

/-- Rows with equal operands are equal. -/
theorem row_congr {x x' g0 g0' g1 g1' : Fin 1024 → EReal} {wg wg' wu wu' : Fin 1024 → Fin 2816 → EReal}
    {w2 w2' : Fin 2816 → Fin 1024 → EReal} {j j' : Fin 1024} (hx : x = x') (h0 : g0 = g0') (h1 : g1 = g1') (hg : wg = wg')
    (hu : wu = wu') (h2 : w2 = w2') (hj : j = j') : row x g0 g1 wg wu w2 j = row x' g0' g1' wg' wu' w2' j' := by
  subst_vars; rfl

/-- The whole result: at token `i 0` and lane `i 1` the feed-forward row of that token with layer 0's weights. -/
def whole (x : FVec Ideal ⟨2, ![16384, 1024]⟩ .f32) (g : FVec Ideal ⟨3, ![4, 2, 1024]⟩ .f32)
    (w13 : FVec Ideal ⟨3, ![4, 1024, 5632]⟩ .f32) (w2 : FVec Ideal ⟨3, ![4, 2816, 1024]⟩ .f32) :
    FVec Ideal ⟨2, ![16384, 1024]⟩ .f32 := fun i =>
  row (fun k => x (ix2 (i 0) k)) (fun k => g (ix3 0 0 k)) (fun k => g (ix3 0 1 k)) (fun k f => w13 (ix3 0 k ⟨f, by omega⟩))
    (fun k f => w13 (ix3 0 k ⟨2816 + f, by omega⟩)) (fun f k => w2 (ix3 0 f k)) (i 1)

end Cert.Ffn

namespace Cert.FfnIdeal.Block

open Cert.FfnIdeal Cert.FfnIdeal.Gen

/-- The value the body stores, at row `r` and lane `j` of the block: the feed-forward row of the block's row `r`. -/
theorem pay (x : FVec Ideal S512x1024 .f32) (g0 g1 : FVec Ideal S1x1x1024 .f32) (wg wu : FVec Ideal S1x1024x2816 .bf16)
    (w2 : FVec Ideal S1x2816x1024 .bf16) (r : Fin 512) (j : Fin 1024) :
    k0_pay1 (F := Ideal) x (k0_pay2 x g0 wg wu w2) (k0_pay3 g1) (k0_pay4 x g0 wg wu w2) (Scalar.ofBits .f32 0x44800000#32) (ix2 r j)
      = Ffn.row (fun k => x (ix2 r k)) (fun k => g0 (ix3 0 0 k)) (fun k => g1 (ix3 0 0 k)) (fun k f => wg (ix3 0 k f))
          (fun k f => wu (ix3 0 k f)) (fun f k => w2 (ix3 0 f k)) j := by
  pointwise [k0_pay1, k0_pay2, k0_pay3, k0_pay4]
  rfl

end Cert.FfnIdeal.Block

namespace Cert.FfnRefIdeal.Block

open Cert.FfnRefIdeal Cert.FfnRefIdeal.Gen

/-- The reference's result is the whole feed-forward result. -/
theorem ref (m : (ℓ : Loc nD τ sig) → Buf (Elt Ideal) ℓ) (c : Dev nD) :
    (Value.res_main_v42 m c : FVec Ideal S16384x1024 .f32)
      = Ffn.whole (m ((c.tc : Thread nD τ).loc main_arg0)) (m ((c.tc : Thread nD τ).loc main_arg1))
          (m ((c.tc : Thread nD τ).loc main_arg2)) (m ((c.tc : Thread nD τ).loc main_arg3)) := by
  funext i
  idx_vars i
  pointwise [Value.res_main_v42]
  rfl

end Cert.FfnRefIdeal.Block
end
-- ==== Proof.Ffn.Array.lean ====
module

public import proofs.«01_k».proof.Proof.Ffn.Block

@[expose] public section

set_option maxRecDepth 16384

noncomputable section

open Idealize.ShloMosaic Idealize.ShloMosaic.TcCoe Idealize.SL.Sem
open Idealize.ShloMosaic.Pipeline (Dat)

namespace Cert.FfnIdeal.Array

open Cert.FfnIdeal Cert.FfnIdeal.Gen

variable (m : (ℓ : Loc nD τ sig) → Buf (Elt Ideal) ℓ)

/-- Which block of its array each window has at grid point `t`. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![t.val, 0] :=
  (by decide +kernel : ∀ t : Fin grid0.N, _)

/-- The result array after the run is the whole feed-forward result of the arguments. -/
theorem final (c : Dev nD) : (dats m 0 c).arrAt 4 (cfgs 0).N
    = Ffn.whole (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  idx_vars y
  refine (Block.pay _ _ _ _ _ _ _ _).trans ?_
  unfold Ffn.whole
  refine Ffn.row_congr (funext fun k => ?_) (funext fun k => ?_) (funext fun k => ?_) (funext fun k => funext fun f => ?_)
    (funext fun k => funext fun f => ?_) (funext fun f => funext fun k => ?_) ?_
  · blk_point [iblk, V, idx t]
  · pointwise; blk_point [iblk, V, idx t]
  · pointwise; blk_point [iblk, V, idx t]
  · pointwise; blk_point [iblk, V, idx t]
  · pointwise; blk_point [iblk, V, idx t]
  · pointwise; blk_point [iblk, V, idx t]
  · apply Fin.ext; blk_simp [idx t]; done

end Cert.FfnIdeal.Array
end
-- ==== Proof.Ffn.Claims.lean ====
module

public import proofs.«01_k».proof.Defs
public import proofs.«01_k».proof.Proof.Ffn.Array
public import proofs.«01_k».proof.Proof.Gen.Ffn.Frame
public import proofs.«01_k».proof.Proof.Gen.FfnIdeal.Frame
public import proofs.«01_k».proof.Proof.Gen.FfnRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem
namespace Cert.Ffn.Claims

/-- The kernel ends with its arguments as they were and every counter at zero. -/
theorem frame_kernel : Cert.quiescent_Ffn := fun m ρ _ => Cert.Ffn.Gen.frame m ρ

/-- The same of the kernel over the extended reals. -/
theorem frame_ideal : Cert.quiescent_FfnIdeal := fun m ρ _ => Cert.FfnIdeal.Gen.frame m ρ

/-- The same of the reference. -/
theorem frame_reference : Cert.quiescent_FfnRefIdeal := fun m ρ _ =>
  (θ_run _ _ _).mono (fun r h => ⟨fun c => (h c).2, sem_eq_zero_of_no_sems (by decide) r.2⟩) (Cert.FfnRefIdeal.Value.run m ρ)

/-- The kernel over the extended reals is the kernel, nothing being replaced. -/
theorem preserved : Cert.preserves_Ffn_FfnIdeal := trivial

/-- Over the extended reals the kernel's result is the reference's. -/
theorem algebraic : Cert.algebraic_FfnIdeal_FfnRefIdeal := by
  pair_intro
  · run_from Cert.FfnIdeal.Gen.run_main m g
  · run_from Cert.FfnRefIdeal.Value.run m' g'
    refine (Cert.FfnRefIdeal.Block.ref m' c).trans ?_
    refine Eq.trans ?_ (Cert.FfnIdeal.Array.final m c).symm
    obtain ⟨h0, h1, h2, h3⟩ := hagree c
    rw [h0, h1, h2, h3]

end Cert.Ffn.Claims
end
-- ==== Proof.Merge.Block.lean ====
module

public import proofs.«01_k».proof.Proof.Gen.MergeIdeal.Value
public import proofs.«01_k».proof.Proof.Gen.MergeRefIdeal.Run
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Rows

namespace Cert.Merge

/-- The logistic function as the reference spells it. -/
def sgm (z : EReal) : EReal := Ideal.div 1 (1 + Ideal.exp (-z))

/-- The three branches' rows, each through its matrix and times its gate, added up. -/
def mix (h : Fin 1024 → EReal) (y0 y1 y2 : Fin 512 → EReal) (wg : Fin 3 → Fin 1024 → Fin 1024 → EReal)
    (wb : Fin 3 → Fin 512 → Fin 1024 → EReal) (d : Fin 1024) : EReal :=
  sgm (vecMul h (wg 0) d) * vecMul y0 (wb 0) d + sgm (vecMul h (wg 1) d) * vecMul y1 (wb 1) d
    + sgm (vecMul h (wg 2) d) * vecMul y2 (wb 2) d

/-- The same as one sum over the stacked branches, the branch chosen by its position. -/
def mixStacked (h : Fin 1024 → EReal) (y0 y1 y2 : Fin 512 → EReal) (wg : Fin 3 → Fin 1024 → Fin 1024 → EReal)
    (wb : Fin 3 → Fin 512 → Fin 1024 → EReal) (d : Fin 1024) : EReal :=
  ∑ n : Fin 3, sgm (vecMul h (wg n) d) * ∑ k : Fin 512, wb n k d *
    (if _ : (n : ℕ) < 1 then y0 k else if _ : (n : ℕ) - 1 < 1 then y1 k else y2 k)

/-- The two spellings of the mixed row agree. -/
theorem mixStacked_eq : mixStacked = mix := by
  funext h y0 y1 y2 wg wb d
  unfold mixStacked mix vecMul
  rw [Fin.sum_univ_three]
  simp [mul_comm]

/-- The merged row: the row plus the normalized product of the mixed row with the output matrix. -/
def row (mixer : (Fin 1024 → EReal) → (Fin 512 → EReal) → (Fin 512 → EReal) → (Fin 512 → EReal)
      → (Fin 3 → Fin 1024 → Fin 1024 → EReal) → (Fin 3 → Fin 512 → Fin 1024 → EReal) → Fin 1024 → EReal)
    (x g0 g1 : Fin 1024 → EReal) (y0 y1 y2 : Fin 512 → EReal) (wg : Fin 3 → Fin 1024 → Fin 1024 → EReal)
    (wb : Fin 3 → Fin 512 → Fin 1024 → EReal) (wo : Fin 1024 → Fin 1024 → EReal) (j : Fin 1024) : EReal :=
  x j + rms (vecMul (mixer (rms x g0) y0 y1 y2 wg wb) wo) g1 j

/-- Rows with equal operands are equal. -/
theorem row_congr {x x' g0 g0' g1 g1' : Fin 1024 → EReal} {y0 y0' y1 y1' y2 y2' : Fin 512 → EReal}
    {wg wg' : Fin 3 → Fin 1024 → Fin 1024 → EReal} {wb wb' : Fin 3 → Fin 512 → Fin 1024 → EReal}
    {wo wo' : Fin 1024 → Fin 1024 → EReal} {j j' : Fin 1024} (hx : x = x') (h0 : g0 = g0') (h1 : g1 = g1')
    (hy0 : y0 = y0') (hy1 : y1 = y1') (hy2 : y2 = y2') (hg : wg = wg') (hb : wb = wb') (ho : wo = wo') (hj : j = j') :
    row mix x g0 g1 y0 y1 y2 wg wb wo j = row mix x' g0' g1' y0' y1' y2' wg' wb' wo' j' := by
  subst_vars; rfl

/-- The whole result: at token `i 0` and lane `i 1` the merged row of that token with layer 0's weights, the gates'
    columns starting at column 3488 of the input weights. -/
def whole (mixer : (Fin 1024 → EReal) → (Fin 512 → EReal) → (Fin 512 → EReal) → (Fin 512 → EReal)
      → (Fin 3 → Fin 1024 → Fin 1024 → EReal) → (Fin 3 → Fin 512 → Fin 1024 → EReal) → Fin 1024 → EReal)
    (x : FVec Ideal ⟨2, ![16384, 1024]⟩ .f32) (g : FVec Ideal ⟨3, ![4, 2, 1024]⟩ .f32)
    (y0 y1 y2 : FVec Ideal ⟨2, ![16384, 512]⟩ .bf16) (wi : FVec Ideal ⟨3, ![4, 1024, 6560]⟩ .f32)
    (wb : FVec Ideal ⟨4, ![4, 3, 512, 1024]⟩ .f32) (wo : FVec Ideal ⟨3, ![4, 1024, 1024]⟩ .f32) :
    FVec Ideal ⟨2, ![16384, 1024]⟩ .f32 := fun i =>
  row mixer (fun k => x (ix2 (i 0) k)) (fun k => g (ix3 0 0 k)) (fun k => g (ix3 0 1 k)) (fun k => y0 (ix2 (i 0) k))
    (fun k => y1 (ix2 (i 0) k)) (fun k => y2 (ix2 (i 0) k)) (fun n k d => wi (ix3 0 k ⟨3488 + (n * 1024 + d), by omega⟩))
    (fun n k d => wb (ix4 0 n k d)) (fun k d => wo (ix3 0 k d)) (i 1)

end Cert.Merge

namespace Cert.MergeIdeal.Block

open Cert.MergeIdeal Cert.MergeIdeal.Gen

/-- The value the body stores, at row `r` and lane `j` of the block: the merged row of the blocks' row `r`. -/
theorem pay (x : FVec Ideal S512x1024 .f32) (g0 g1 : FVec Ideal S1x1x1024 .f32) (y0 y1 y2 : FVec Ideal S512x512 .bf16)
    (wg0 wg1 wg2 wo : FVec Ideal S1x1024x1024 .bf16) (wb0 wb1 wb2 : FVec Ideal S1x1x512x1024 .bf16) (r : Fin 512) (j : Fin 1024) :
    k0_pay4 (F := Ideal) x (k0_pay1 x g0) (k0_pay2 x g0 wg0 y0 wb0) (k0_pay3 x g0 wg1) y1 wb1 wg2 y2 wb2 wo g1 (ix2 r j)
      = Merge.row Merge.mix (fun k => x (ix2 r k)) (fun k => g0 (ix3 0 0 k)) (fun k => g1 (ix3 0 0 k)) (fun k => y0 (ix2 r k))
          (fun k => y1 (ix2 r k)) (fun k => y2 (ix2 r k)) (fun n k d => ![wg0, wg1, wg2] n (ix3 0 k d))
          (fun n k d => ![wb0, wb1, wb2] n (ix4 0 0 k d)) (fun k d => wo (ix3 0 k d)) j := by
  pointwise [k0_pay1, k0_pay2, k0_pay3, k0_pay4]
  rfl

end Cert.MergeIdeal.Block

namespace Cert.MergeRefIdeal.Block

open Cert.MergeRefIdeal Cert.MergeRefIdeal.Gen

/-- The reference's result is the whole merged result. -/
theorem ref (m : (ℓ : Loc nD τ sig) → Buf (Elt Ideal) ℓ) (c : Dev nD) :
    (Value.res_out0 m c : FVec Ideal S16384x1024 .f32)
      = Merge.whole Merge.mix (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [← Merge.mixStacked_eq]
  funext i
  idx_vars i
  pointwise [Value.res_out0, Value.res_main_v55]
  rfl

end Cert.MergeRefIdeal.Block
end
-- ==== Proof.Merge.Array.lean ====
module

public import proofs.«01_k».proof.Proof.Merge.Block

@[expose] public section

set_option maxRecDepth 16384

noncomputable section

open Idealize.ShloMosaic Idealize.ShloMosaic.TcCoe Idealize.SL.Sem
open Idealize.ShloMosaic.Pipeline (Dat)

namespace Cert.MergeIdeal.Array

open Cert.MergeIdeal Cert.MergeIdeal.Gen

variable (m : (ℓ : Loc nD τ sig) → Buf (Elt Ideal) ℓ)

/-- Which block of its array each window has at grid point `t`. -/
theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0] ∧ win0_5.index t = ![0, 0, 0] ∧ win0_6.index t = ![0, 0, 0, 0]
    ∧ win0_7.index t = ![0, 0, 0] ∧ win0_8.index t = ![t.val, 0] :=
  (by decide +kernel : ∀ t : Fin grid0.N, _)

/-- The result array after the run is the whole merged result of the arguments. -/
theorem final (c : Dev nD) : (dats m 0 c).arrAt 8 (cfgs 0).N
    = Merge.whole Merge.mix (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8]; frame_out
  idx_vars y
  refine (Block.pay _ _ _ _ _ _ _ _ _ _ _ _ _ _ _).trans ?_
  unfold Merge.whole
  refine Merge.row_congr (funext fun k => ?_) (funext fun k => ?_) (funext fun k => ?_) (funext fun k => ?_) (funext fun k => ?_)
    (funext fun k => ?_) (funext fun n => funext fun k => funext fun d => ?_)
    (funext fun n => funext fun k => funext fun d => ?_) (funext fun k => funext fun d => ?_) ?_
  · blk_point [iblk, V, idx t]
  · pointwise; blk_point [iblk, V, idx t]
  · pointwise; blk_point [iblk, V, idx t]
  · blk_point [iblk, V, idx t]
  · blk_point [iblk, V, idx t]
  · blk_point [iblk, V, idx t]
  · fin_cases n <;> dsimp <;> pointwise <;> blk_point [iblk, V, idx t]
  · fin_cases n <;> dsimp <;> pointwise <;> blk_point [iblk, V, idx t]
  · pointwise; blk_point [iblk, V, idx t]
  · apply Fin.ext; blk_simp [idx t]; done

end Cert.MergeIdeal.Array
end
-- ==== Proof.Merge.Claims.lean ====
module

public import proofs.«01_k».proof.Defs
public import proofs.«01_k».proof.Proof.Merge.Array
public import proofs.«01_k».proof.Proof.Gen.Merge.Frame
public import proofs.«01_k».proof.Proof.Gen.MergeIdeal.Frame
public import proofs.«01_k».proof.Proof.Gen.MergeRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem
namespace Cert.Merge.Claims

/-- The kernel ends with its arguments as they were and every counter at zero. -/
theorem frame_kernel : Cert.quiescent_Merge := fun m ρ _ => Cert.Merge.Gen.frame m ρ

/-- The same of the kernel over the extended reals. -/
theorem frame_ideal : Cert.quiescent_MergeIdeal := fun m ρ _ => Cert.MergeIdeal.Gen.frame m ρ

/-- The same of the reference. -/
theorem frame_reference : Cert.quiescent_MergeRefIdeal := fun m ρ _ =>
  (θ_run _ _ _).mono (fun r h => ⟨fun c => (h c).2, sem_eq_zero_of_no_sems (by decide) r.2⟩) (Cert.MergeRefIdeal.Value.run m ρ)

/-- The kernel over the extended reals is the kernel, nothing being replaced. -/
theorem preserved : Cert.preserves_Merge_MergeIdeal := trivial

/-- Over the extended reals the kernel's result is the reference's. -/
theorem algebraic : Cert.algebraic_MergeIdeal_MergeRefIdeal := by
  pair_intro
  · run_from Cert.MergeIdeal.Gen.run_main m g
  · run_from Cert.MergeRefIdeal.Value.run m' g'
    refine (Cert.MergeRefIdeal.Block.ref m' c).trans ?_
    refine Eq.trans ?_ (Cert.MergeIdeal.Array.final m c).symm
    obtain ⟨h0, h1, h2, h3, h4, h5, h6, h7⟩ := hagree c
    rw [h0, h1, h2, h3, h4, h5, h6, h7]

end Cert.Merge.Claims
end
-- ==== Proof.Cross.Spec.lean ====
module

public import proofs.«01_k».proof.Proof.Softmax
public import Idealize.ShloMosaic.Lib.Pointwise

@[expose] public section

set_option maxRecDepth 16384

noncomputable section

open Idealize.ShloMosaic Idealize.ShloMosaic.TcCoe Idealize.SL.Sem
open Cert.Rows Cert.Finite Cert.Softmax

namespace Cert.Cross

/-- The scores of a head's queries against the keys. -/
def scores (q : Fin 256 → EReal) (k : Fin 256 → Fin 256 → EReal) (n : Fin 256) : EReal := ∑ d : Fin 256, q d * k n d

/-- One lane of a head's output, divided by the total after the product with the values. -/
def headLate (s v : Fin 256 → EReal) : EReal := Ideal.div (∑ n : Fin 256, part s n * v n) (total s)

/-- A choice among four tiles of 256 lanes by comparisons is the choice by quotient and remainder. -/
theorem tiles {α : Type} (f0 f1 f2 f3 : Fin 256 → α) (i : Fin 1024) :
    (if h : (i : ℕ) < 256 then f0 ⟨i, h⟩ else if h : (i : ℕ) - 256 < 256 then f1 ⟨i - 256, h⟩
      else if h : (i : ℕ) - 256 - 256 < 256 then f2 ⟨i - 256 - 256, h⟩ else f3 ⟨i - 256 - 256 - 256, by omega⟩)
      = (![f0, f1, f2, f3] : Fin 4 → Fin 256 → α) ⟨i / 256, by omega⟩ ⟨i % 256, by omega⟩ := by
  have key : ∀ (a : Fin 4) (e : Fin 256), 256 * (a : ℕ) + e = i →
      (![f0, f1, f2, f3] : Fin 4 → Fin 256 → α) ⟨i / 256, by omega⟩ ⟨i % 256, by omega⟩ = (![f0, f1, f2, f3] : Fin 4 → Fin 256 → α) a e :=
    fun a e h => congrArg₂ _ (Fin.ext (by simp; omega)) (Fin.ext (by simp; omega))
  split_ifs with h1 h2 h3
  · exact (key 0 ⟨i, h1⟩ (by simp)).symm
  · exact (key 1 ⟨i - 256, h2⟩ (by simp; omega)).symm
  · exact (key 2 ⟨i - 256 - 256, h3⟩ (by simp; omega)).symm
  · exact (key 3 ⟨i - 256 - 256 - 256, by omega⟩ (by simp; omega)).symm

/-- The heads' outputs side by side from the row of queries, the queries scaled by one sixteenth before the product with
    the keys: lane `i` is lane `i % 256` of head `i / 256`. -/
def headsLate (q : Fin 1024 → EReal) (k v : Fin 4 → Fin 256 → Fin 256 → EReal) (i : Fin 1024) : EReal :=
  (fun (a : Fin 4) (e : Fin 256) => headLate
      (scores (fun d => q ⟨a * 256 + d, by omega⟩ * Ideal.ofBits .f32 0x3D800000#32) (k a)) fun n => v a n e)
    ⟨i / 256, by omega⟩ ⟨i % 256, by omega⟩

/-- The heads' outputs as the layer defines them: the scores scaled by one sixteenth, and the softmax's weights against
    the values. -/
def heads (q : Fin 1024 → EReal) (k v : Fin 4 → Fin 256 → Fin 256 → EReal) (i : Fin 1024) : EReal :=
  (fun (a : Fin 4) (e : Fin 256) => attend
      (fun n => scores (fun d => q ⟨a * 256 + d, by omega⟩) (k a) n * Ideal.ofBits .f32 0x3D800000#32) fun n => v a n e)
    ⟨i / 256, by omega⟩ ⟨i % 256, by omega⟩

/-- For real queries and keys the two agree. -/
theorem headsLate_eq {q : Fin 1024 → EReal} {k : Fin 4 → Fin 256 → Fin 256 → EReal} (hq : ∀ i, IsReal (q i))
    (hk : ∀ a n d, IsReal (k a n d)) (v : Fin 4 → Fin 256 → Fin 256 → EReal) : headsLate q k v = heads q k v := by
  have key : ∀ (a : Fin 4) (e : Fin 256), headLate
      (scores (fun d => q ⟨a * 256 + d, by omega⟩ * Ideal.ofBits .f32 0x3D800000#32) (k a)) (fun n => v a n e)
      = attend (fun n => scores (fun d => q ⟨a * 256 + d, by omega⟩) (k a) n * Ideal.ofBits .f32 0x3D800000#32) fun n => v a n e := by
    intro a e
    have hs : scores (fun d => q ⟨a * 256 + d, by omega⟩ * Ideal.ofBits .f32 0x3D800000#32) (k a)
        = fun n => scores (fun d => q ⟨a * 256 + d, by omega⟩) (k a) n * Ideal.ofBits .f32 0x3D800000#32 := by
      funext n
      unfold scores
      rw [const_sixteenth, sum_mul _ _ (by norm_num)]
      exact Finset.sum_congr rfl fun d _ => mul_right_comm _ _ _
    rw [hs]
    refine div_sum (good_of_real (fun n => ?_) 0) _
    exact (IsReal.sum fun d => (hq _).mul (hk _ _ _)).mul ⟨_, const_sixteenth⟩
  exact funext fun i => key _ _

/-- The row after the attention: the row plus the normalized product of the heads' outputs with the output matrix. -/
def row (hs : (Fin 1024 → EReal) → (Fin 4 → Fin 256 → Fin 256 → EReal) → (Fin 4 → Fin 256 → Fin 256 → EReal) → Fin 1024 → EReal)
    (x g0 g1 : Fin 1024 → EReal) (k v : Fin 4 → Fin 256 → Fin 256 → EReal) (wq wo : Fin 1024 → Fin 1024 → EReal) (j : Fin 1024) : EReal :=
  x j + rms (vecMul (hs (vecMul (rms x g0) wq) k v) wo) g1 j

/-- Rows with equal operands are equal. -/
theorem row_congr {hs : (Fin 1024 → EReal) → (Fin 4 → Fin 256 → Fin 256 → EReal) → (Fin 4 → Fin 256 → Fin 256 → EReal) → Fin 1024 → EReal}
    {x x' g0 g0' g1 g1' : Fin 1024 → EReal} {k k' v v' : Fin 4 → Fin 256 → Fin 256 → EReal}
    {wq wq' wo wo' : Fin 1024 → Fin 1024 → EReal} {j j' : Fin 1024} (hx : x = x') (h0 : g0 = g0') (h1 : g1 = g1')
    (hk : k = k') (hv : v = v') (hq : wq = wq') (ho : wo = wo') (hj : j = j') :
    row hs x g0 g1 k v wq wo j = row hs x' g0' g1' k' v' wq' wo' j' := by
  subst_vars; rfl

/-- The whole result: at batch entry `i 0`, token `i 1` and lane `i 2` the row of that token with layer 0's weights, keys
    and values, the values behind the keys. -/
def whole (hs : (Fin 1024 → EReal) → (Fin 4 → Fin 256 → Fin 256 → EReal) → (Fin 4 → Fin 256 → Fin 256 → EReal) → Fin 1024 → EReal)
    (x : FVec Ideal ⟨3, ![8, 2048, 1024]⟩ .f32) (g : FVec Ideal ⟨3, ![4, 3, 1024]⟩ .f32)
    (kv : FVec Ideal ⟨4, ![4, 8, 256, 2048]⟩ .bf16) (wq wo : FVec Ideal ⟨3, ![4, 1024, 1024]⟩ .f32) :
    FVec Ideal ⟨3, ![8, 2048, 1024]⟩ .f32 := fun i =>
  row hs (fun k => x (ix3 (i 0) (i 1) k)) (fun k => g (ix3 0 0 k)) (fun k => g (ix3 0 1 k))
    (fun a n d => kv (ix4 0 (i 0) n ⟨a * 256 + d, by omega⟩)) (fun a n e => kv (ix4 0 (i 0) n ⟨1024 + a * 256 + e, by omega⟩))
    (fun k d => wq (ix3 0 k d)) (fun k d => wo (ix3 0 k d)) (i 2)

/-- Where layer 0's gains, keys and query matrix are real numbers, the two whole results agree. -/
theorem whole_eq {x : FVec Ideal ⟨3, ![8, 2048, 1024]⟩ .f32} {g : FVec Ideal ⟨3, ![4, 3, 1024]⟩ .f32}
    {kv : FVec Ideal ⟨4, ![4, 8, 256, 2048]⟩ .bf16} {wq : FVec Ideal ⟨3, ![4, 1024, 1024]⟩ .f32}
    (hg : ∀ k, IsReal (g (ix3 0 0 k))) (hk : ∀ b n (d : Fin 1024), IsReal (kv (ix4 0 b n ⟨d, by omega⟩)))
    (hwq : ∀ k d, IsReal (wq (ix3 0 k d)))
    (wo : FVec Ideal ⟨3, ![4, 1024, 1024]⟩ .f32) : whole headsLate x g kv wq wo = whole heads x g kv wq wo := by
  funext i
  refine congrArg (fun h : Fin 1024 → EReal => _ + rms (vecMul h _) _ _)
    (headsLate_eq (fun _ => ?_) (fun a n d => hk (i 0) n ⟨a * 256 + d, by omega⟩) _)
  exact IsReal.sum fun k => (isReal_rms hg k).mul (hwq _ _)

end Cert.Cross

end
-- ==== Proof.Cross.Block.lean ====
module

public import proofs.«01_k».proof.Proof.Gen.CrossIdeal.Value
public import proofs.«01_k».proof.Proof.Cross.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Rows Cert.Finite Cert.Softmax

namespace Cert.CrossIdeal.Block

open Cert.CrossIdeal Cert.CrossIdeal.Gen

/-- The stored queries: the normalized row times the query matrix, times one sixteenth. -/
theorem query (x : FVec Ideal S1x512x1024 .f32) (g : FVec Ideal S1x1x1024 .f32) (wq : FVec Ideal S1x1024x1024 .bf16)
    (r : Fin 512) (j : Fin 1024) : k0_pay3 (F := Ideal) x g wq (ix2 r j)
      = vecMul (rms (fun k => x (ix3 0 r k)) (fun k => g (ix3 0 0 k))) (fun k i => wq (ix3 0 k i)) j * Ideal.ofBits .f32 0x3D800000#32 := by
  pointwise [k0_pay3, k0_pay2]
  rfl

/-- The first head's output, from the stored queries. -/
theorem head0 (x : FVec Ideal S1x512x1024 .f32) (g : FVec Ideal S1x1x1024 .f32) (wq : FVec Ideal S1x1024x1024 .bf16)
    (k v : FVec Ideal S1x1x256x256 .bf16) (r : Fin 512) (e : Fin 256) :
    k0_pay7 (F := Ideal) (k0_pay5 x g wq k) (k0_pay6 x g wq k) v (ix2 r e)
      = Cross.headLate (Cross.scores (fun d => k0_pay3 (F := Ideal) x g wq (ix2 r ⟨d, by omega⟩)) fun n d => k (ix4 0 0 n d))
          fun n => v (ix4 0 0 n e) := by
  unfold k0_pay5 k0_pay6 k0_pay4
  generalize (k0_pay3 (F := Ideal) x g wq) = q
  pointwise [k0_pay7]
  simp only [const_neg_inf]
  rfl

/-- The second head's output. -/
theorem head1 (q : FVec Ideal S512x1024 .bf16) (k v : FVec Ideal S1x1x256x256 .bf16) (r : Fin 512) (e : Fin 256) :
    k0_pay8 (F := Ideal) q k v (ix2 r e)
      = Cross.headLate (Cross.scores (fun d => q (ix2 r ⟨256 + d, by omega⟩)) fun n d => k (ix4 0 0 n d)) fun n => v (ix4 0 0 n e) := by
  pointwise [k0_pay8]
  simp only [const_neg_inf]
  rfl

/-- The product of the heads' outputs with the output matrix, from the first two heads' outputs and the other two heads' keys and values. -/
theorem mixed (q : FVec Ideal S512x1024 .bf16) (h0 h1 : FVec Ideal S512x256 .bf16) (k2 k3 v2 v3 : FVec Ideal S1x1x256x256 .bf16)
    (wo : FVec Ideal S1x1024x1024 .bf16) (r : Fin 512) (j : Fin 1024) :
    k0_pay12 (F := Ideal) q h0 h1 (k0_pay10 q k2) (k0_pay11 q k2) v2 k3 v3 wo (ix2 r j)
      = vecMul (fun i => (![fun e => h0 (ix2 r e), fun e => h1 (ix2 r e),
          fun e => Cross.headLate (Cross.scores (fun d => q (ix2 r ⟨512 + d, by omega⟩)) fun n d => k2 (ix4 0 0 n d)) fun n => v2 (ix4 0 0 n e),
          fun e => Cross.headLate (Cross.scores (fun d => q (ix2 r ⟨768 + d, by omega⟩)) fun n d => k3 (ix4 0 0 n d)) fun n => v3 (ix4 0 0 n e)]
            : Fin 4 → Fin 256 → EReal) ⟨i / 256, by omega⟩ ⟨i % 256, by omega⟩) (fun i j => wo (ix3 0 i j)) j := by
  pointwise [k0_pay9, k0_pay10, k0_pay11, k0_pay12]
  simp only [const_neg_inf]
  unfold vecMul
  simp only [← Cross.tiles]
  rfl

/-- The whole product, from the stored blocks. -/
theorem product (x : FVec Ideal S1x512x1024 .f32) (g : FVec Ideal S1x1x1024 .f32) (wq wo : FVec Ideal S1x1024x1024 .bf16)
    (k0 k1 k2 k3 v0 v1 v2 v3 : FVec Ideal S1x1x256x256 .bf16) (r : Fin 512) (j : Fin 1024) :
    k0_pay12 (F := Ideal) (k0_pay3 x g wq) (k0_pay7 (k0_pay5 x g wq k0) (k0_pay6 x g wq k0) v0) (k0_pay8 (k0_pay3 x g wq) k1 v1)
        (k0_pay10 (k0_pay3 x g wq) k2) (k0_pay11 (k0_pay3 x g wq) k2) v2 k3 v3 wo (ix2 r j)
      = vecMul (Cross.headsLate (vecMul (rms (fun k => x (ix3 0 r k)) (fun k => g (ix3 0 0 k))) (fun k i => wq (ix3 0 k i)))
          (fun a n d => ![k0, k1, k2, k3] a (ix4 0 0 n d)) (fun a n e => ![v0, v1, v2, v3] a (ix4 0 0 n e)))
          (fun i j => wo (ix3 0 i j)) j := by
  refine (mixed _ _ _ _ _ _ _ _ _ _).trans (congrArg (fun h => vecMul h _ j) (funext fun i => ?_))
  unfold Cross.headsLate
  generalize (⟨(i : ℕ) / 256, _⟩ : Fin 4) = a
  generalize (⟨(i : ℕ) % 256, _⟩ : Fin 256) = e
  have hq : ∀ i, vecMul (rms (fun k => x (ix3 0 r k)) (fun k => g (ix3 0 0 k))) (fun k i => wq (ix3 0 k i)) i
      * Ideal.ofBits .f32 0x3D800000#32 = k0_pay3 (F := Ideal) x g wq (ix2 r i) := fun i => (query x g wq r i).symm
  simp only [hq]
  have h0 := head0 x g wq k0 v0 r e
  have h1 := head1 (k0_pay3 (F := Ideal) x g wq) k1 v1 r e
  generalize k0_pay7 (F := Ideal) (k0_pay5 x g wq k0) (k0_pay6 x g wq k0) v0 = p0 at *
  generalize k0_pay8 (F := Ideal) (k0_pay3 x g wq) k1 v1 = p1 at *
  generalize k0_pay3 (F := Ideal) x g wq = q at *
  fin_cases a <;> simp only [Fin.zero_eta, Fin.mk_one, Fin.reduceFinMk, Matrix.cons_val_zero, Matrix.cons_val_one, Matrix.cons_val]
  · rw [h0]; simp only [Fin.coe_ofNat_eq_mod, Nat.zero_mod, Nat.zero_mul, Nat.zero_add]
  · exact h1

/-- The stored value: the block's row plus the normalized product. -/
theorem norm (x : FVec Ideal S1x512x1024 .f32) (q : FVec Ideal S512x1024 .bf16) (h0 h1 h3 : FVec Ideal S512x256 .bf16)
    (t2 : FVec Ideal S512x1 .f32) (v2 k3 v3 : FVec Ideal S1x1x256x256 .bf16)
    (wo : FVec Ideal S1x1024x1024 .bf16) (g1 : FVec Ideal S1x1x1024 .f32) (r : Fin 512) (j : Fin 1024) :
    k0_pay1 (F := Ideal) (k0_pay2 x) (k0_pay12 q h0 h1 t2 h3 v2 k3 v3 wo) (k0_pay13 g1) (k0_pay14 q h0 h1 t2 h3 v2 k3 v3 wo)
        (Scalar.ofBits .f32 0x358637BD#32) (ix3 0 r j)
      = x (ix3 0 r j) + rms (fun j => k0_pay12 (F := Ideal) q h0 h1 t2 h3 v2 k3 v3 wo (ix2 r j)) (fun k => g1 (ix3 0 0 k)) j := by
  unfold k0_pay14
  generalize (k0_pay12 (F := Ideal) q h0 h1 t2 h3 v2 k3 v3 wo) = y
  pointwise [k0_pay1, k0_pay2, k0_pay13]
  rfl

/-- The value the body stores, at row `r` and lane `j` of the block. -/
theorem pay (x : FVec Ideal S1x512x1024 .f32) (g0 g1 : FVec Ideal S1x1x1024 .f32) (wq wo : FVec Ideal S1x1024x1024 .bf16)
    (k0 k1 k2 k3 v0 v1 v2 v3 : FVec Ideal S1x1x256x256 .bf16) (r : Fin 512) (j : Fin 1024) :
    k0_pay1 (F := Ideal) (k0_pay2 x)
        (k0_pay12 (k0_pay3 x g0 wq) (k0_pay7 (k0_pay5 x g0 wq k0) (k0_pay6 x g0 wq k0) v0) (k0_pay8 (k0_pay3 x g0 wq) k1 v1)
          (k0_pay10 (k0_pay3 x g0 wq) k2) (k0_pay11 (k0_pay3 x g0 wq) k2) v2 k3 v3 wo) (k0_pay13 g1)
        (k0_pay14 (k0_pay3 x g0 wq) (k0_pay7 (k0_pay5 x g0 wq k0) (k0_pay6 x g0 wq k0) v0) (k0_pay8 (k0_pay3 x g0 wq) k1 v1)
          (k0_pay10 (k0_pay3 x g0 wq) k2) (k0_pay11 (k0_pay3 x g0 wq) k2) v2 k3 v3 wo) (Scalar.ofBits .f32 0x358637BD#32) (ix3 0 r j)
      = Cross.row Cross.headsLate (fun k => x (ix3 0 r k)) (fun k => g0 (ix3 0 0 k)) (fun k => g1 (ix3 0 0 k))
          (fun a n d => ![k0, k1, k2, k3] a (ix4 0 0 n d)) (fun a n e => ![v0, v1, v2, v3] a (ix4 0 0 n e))
          (fun k i => wq (ix3 0 k i)) (fun k i => wo (ix3 0 k i)) j := by
  rw [norm]
  unfold Cross.row
  exact congrArg (fun y => _ + rms y _ j) (funext fun j => product x g0 wq wo k0 k1 k2 k3 v0 v1 v2 v3 r j)

end Cert.CrossIdeal.Block

end
-- ==== Proof.Cross.Array.lean ====
module

public import proofs.«01_k».proof.Proof.Cross.Block

@[expose] public section

set_option maxRecDepth 16384

noncomputable section

open Idealize.ShloMosaic Idealize.ShloMosaic.TcCoe Idealize.SL.Sem
open Idealize.ShloMosaic.Pipeline (Dat)

namespace Cert.CrossIdeal.Array

open Cert.CrossIdeal Cert.CrossIdeal.Gen

variable (m : (ℓ : Loc nD τ sig) → Buf (Elt Ideal) ℓ)

/-- Which block of its array each window has at grid point `t`. -/
theorem idx : ∀ t : Fin cfg0.N, win0_0.index t = ![t.val / 4, t.val % 4, 0] ∧ win0_1.index t = ![0, 0, 0]
    ∧ win0_2.index t = ![0, t.val / 4, 0, 0] ∧ win0_3.index t = ![0, 0, 0] ∧ win0_4.index t = ![0, 0, 0]
    ∧ win0_5.index t = ![t.val / 4, t.val % 4, 0] :=
  (by decide +kernel : ∀ t : Fin grid0.N, _)

/-- The result array after the run is the whole result, the division after the product with the values. -/
theorem final (c : Dev nD) : (dats m 0 c).arrAt 5 (cfgs 0).N
    = Cross.whole Cross.headsLate (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]; unfold_out out0_5; frame_out
  idx_vars y
  obtain rfl : y0 = 0 := Subsingleton.elim _ _
  refine (Block.pay _ _ _ _ _ _ _ _ _ _ _ _ _ _ _).trans ?_
  unfold Cross.whole
  refine Cross.row_congr (funext fun k => ?_) (funext fun k => ?_) (funext fun k => ?_)
    (funext fun a => funext fun n => funext fun d => ?_) (funext fun a => funext fun n => funext fun d => ?_)
    (funext fun k => funext fun d => ?_) (funext fun k => funext fun d => ?_) ?_
  · blk_point [iblk, V, idx t]
  · pointwise; blk_point [iblk, V, idx t]
  · pointwise; blk_point [iblk, V, idx t]
  · fin_cases a <;> dsimp <;> pointwise <;> blk_point [iblk, V, idx t]
  · fin_cases a <;> dsimp <;> pointwise <;> blk_point [iblk, V, idx t]
  · pointwise; blk_point [iblk, V, idx t]
  · pointwise; blk_point [iblk, V, idx t]
  · apply Fin.ext; blk_simp [idx t]; done

end Cert.CrossIdeal.Array
end
-- ==== Proof.Cross.Ref.lean ====
module

public import proofs.«01_k».proof.Proof.Gen.CrossRefIdeal.Run
public import proofs.«01_k».proof.Proof.Cross.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Rows Cert.Finite Cert.Softmax

namespace Cert.CrossRefIdeal.Block

open Cert.CrossRefIdeal Cert.CrossRefIdeal.Gen Cert.CrossRefIdeal.Facts

/-- The reference's normalization of an array of rows with gains. -/
def normed (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt
    (addf (Host.divf (broadcastInDim S8x2048x1 ![0, 1] bcast_S8x2048_S8x2048x1_0_1
        (Host.reduceAdd (mulf x x) (constant S_ .f32 0x00000000#32) reducesTo_S8x2048x1024_S8x2048_d2 h_S_))
        (broadcastInDim S8x2048x1 ![] bcast_S_S8x2048x1 (constant S_ .f32 0x44800000#32)))
      (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- The keys and values of layer 0, by batch entry, position, which of the two, head and lane. -/
def pairs (kv : FVec Ideal S4x8x256x2048 .bf16) : FVec Ideal S8x256x2x4x256 .f32 :=
  shapeCast _ (extf .f32 (shapeCast S8x256x2048 (extractStridedSlice S1x8x256x2048 ![0, 0, 0, 0] kv slices_S4x8x256x2048_S1x8x256x2048_0_0_0_0)
    shapeCasts_S1x8x256x2048_S8x256x2048) bitsLt_bf16_f32) shapeCasts_S8x256x2048_S8x256x2x4x256

/-- The reference's scaled scores, from the normalized rows. -/
def scaled (h : FVec Ideal S8x2048x1024 .f32) (kv : FVec Ideal S8x256x2x4x256 .f32) (wq : FVec Ideal S4x1024x1024 .f32) : FVec Ideal S8x4x2048x256 .f32 :=
  mulf (Host.dotGeneral dot_S8x2048x4x256_S8x256x4x256_S8x4x2048x256_3_3_1_1_02_02 none
      (shapeCast _ (Host.dotGeneral dot_S8x2048x1024_S1024x1024_S8x2048x1024_2_0_01_1_n_n none h
        (shapeCast _ (extractStridedSlice S1x1024x1024 ![0, 0, 0] wq slices_S4x1024x1024_S1x1024x1024_0_0_0) shapeCasts_S1x1024x1024_S1024x1024))
        shapeCasts_S8x2048x1024_S8x2048x4x256)
      (shapeCast _ (extractStridedSlice S8x256x1x4x256 ![0, 0, 0, 0, 0] kv slices_S8x256x2x4x256_S8x256x1x4x256_0_0_0_0_0) shapeCasts_S8x256x1x4x256_S8x256x4x256))
    (broadcastInDim S8x4x2048x256 ![] bcast_S_S8x4x2048x256 (constant S_ .f32 0x3D800000#32))

/-- One number for each row, at all of the row's positions. -/
def spread (r : FVec Ideal S8x4x2048 .f32) : FVec Ideal S8x4x2048x256 .f32 :=
  broadcastInDim S8x4x2048x256 ![0, 1, 2, 3] bcast_S8x4x2048x1_S8x4x2048x256_0_1_2_3
    (broadcastInDim S8x4x2048x1 ![0, 1, 2] bcast_S8x4x2048_S8x4x2048x1_0_1_2 r)

/-- Each row's largest score. -/
def found (s : FVec Ideal S8x4x2048x256 .f32) : FVec Ideal S8x4x2048 .f32 :=
  Host.reduce FloatOps.maximumf s (constant S_ .f32 0xFF800000#32) reducesTo_S8x4x2048x256_S8x4x2048_d3 h_S_

/-- Each row's largest score, no less than the least value there is. -/
def largest (r : FVec Ideal S8x4x2048 .f32) : FVec Ideal S8x4x2048 .f32 :=
  maximumf (broadcastInDim S8x4x2048 ![] bcast_S_S8x4x2048 (constant S_ .f32 0xFF800000#32)) r

/-- The exponentials of the scores less their rows' largest. -/
def parts (s : FVec Ideal S8x4x2048x256 .f32) : FVec Ideal S8x4x2048x256 .f32 :=
  Host.exp (subf s (spread (largest (found s))))

/-- Each row's sum. -/
def sums (p : FVec Ideal S8x4x2048x256 .f32) : FVec Ideal S8x4x2048 .f32 :=
  Host.reduceAdd p (constant S_ .f32 0x00000000#32) reducesTo_S8x4x2048x256_S8x4x2048_d3 h_S_

/-- Each exponential over its row's sum. -/
def weights (p : FVec Ideal S8x4x2048x256 .f32) : FVec Ideal S8x4x2048x256 .f32 := Host.divf p (spread (sums p))

/-- The weighted values, side by side. -/
def averaged (kv : FVec Ideal S8x256x2x4x256 .f32) (w : FVec Ideal S8x4x2048x256 .f32) : FVec Ideal S8x2048x1024 .f32 :=
  shapeCast _ (transpose S8x2048x4x256 [0, 3, 1, 2] (Host.dotGeneral dot_S8x256x4x256_S8x4x2048x256_S8x4x256x2048_1_3_3_2_02_01 none
    (shapeCast _ (extractStridedSlice S8x256x1x4x256 ![0, 0, 1, 0, 0] kv slices_S8x256x2x4x256_S8x256x1x4x256_0_0_1_0_0) shapeCasts_S8x256x1x4x256_S8x256x4x256) w)
    transposes_S8x4x256x2048_S8x2048x4x256_0_3_1_2) shapeCasts_S8x2048x4x256_S8x2048x1024

/-- The product with the output matrix. -/
def projected (o : FVec Ideal S8x2048x1024 .f32) (wo : FVec Ideal S4x1024x1024 .f32) : FVec Ideal S8x2048x1024 .f32 :=
  Host.dotGeneral dot_S8x2048x1024_S1024x1024_S8x2048x1024_2_0_01_1_n_n none o
    (shapeCast _ (extractStridedSlice S1x1024x1024 ![0, 0, 0] wo slices_S4x1024x1024_S1x1024x1024_0_0_0) shapeCasts_S1x1024x1024_S1024x1024)

/-- The gains' row for the normalization before, and for the one after. -/
def gain0 (g : FVec Ideal S4x3x1024 .f32) : FVec Ideal S1024 .f32 :=
  shapeCast _ (extractStridedSlice S1x1x1024 ![0, 0, 0] g slices_S4x3x1024_S1x1x1024_0_0_0) shapeCasts_S1x1x1024_S1024
def gain1 (g : FVec Ideal S4x3x1024 .f32) : FVec Ideal S1024 .f32 :=
  shapeCast _ (extractStridedSlice S1x1x1024 ![0, 1, 0] g slices_S4x3x1024_S1x1x1024_0_1_0) shapeCasts_S1x1x1024_S1024

/-- The reference's result is the composition of its stages. -/
theorem stages (m : (ℓ : Loc nD τ sig) → Buf (Elt Ideal) ℓ) (c : Dev nD) :
    (Value.res_out0 m c : FVec Ideal S8x2048x1024 .f32)
      = addf (m ((c.tc : Thread nD τ).loc main_arg0)) (normed (projected (averaged (pairs (m ((c.tc : Thread nD τ).loc main_arg2)))
          (weights (parts (scaled (normed (m ((c.tc : Thread nD τ).loc main_arg0)) (gain0 (m ((c.tc : Thread nD τ).loc main_arg1))))
            (pairs (m ((c.tc : Thread nD τ).loc main_arg2))) (m ((c.tc : Thread nD τ).loc main_arg3))))))
          (m ((c.tc : Thread nD τ).loc main_arg4))) (gain1 (m ((c.tc : Thread nD τ).loc main_arg1)))) := by
  rfl

theorem gain0_at (g : FVec Ideal S4x3x1024 .f32) (k : Fin 1024) : gain0 g (ix1 k) = g (ix3 0 0 k) := by pointwise [gain0]
theorem gain1_at (g : FVec Ideal S4x3x1024 .f32) (k : Fin 1024) : gain1 g (ix1 k) = g (ix3 0 1 k) := by pointwise [gain1]

theorem normed_at (x : FVec Ideal S8x2048x1024 .f32) (g : FVec Ideal S1024 .f32) (b : Fin 8) (t : Fin 2048) (j : Fin 1024) :
    normed x g (ix3 b t j) = rms (fun k => x (ix3 b t k)) (fun k => g (ix1 k)) j := by
  pointwise [normed]
  rfl

theorem scaled_at (h : FVec Ideal S8x2048x1024 .f32) (kv : FVec Ideal S4x8x256x2048 .bf16) (wq : FVec Ideal S4x1024x1024 .f32)
    (b : Fin 8) (a : Fin 4) (t : Fin 2048) (n : Fin 256) : scaled h (pairs kv) wq (ix4 b a t n)
      = Cross.scores (fun d => vecMul (fun k => h (ix3 b t k)) (fun k i => wq (ix3 0 k i)) ⟨a * 256 + d, by omega⟩)
          (fun n d => kv (ix4 0 b n ⟨a * 256 + d, by omega⟩)) n * Ideal.ofBits .f32 0x3D800000#32 := by
  pointwise [scaled, pairs]
  rfl

theorem spread_at (r : FVec Ideal S8x4x2048 .f32) (b : Fin 8) (a : Fin 4) (t : Fin 2048) (n : Fin 256) :
    spread r (ix4 b a t n) = r (ix3 b a t) := by
  pointwise [spread]

theorem found_at (s : FVec Ideal S8x4x2048x256 .f32) (b : Fin 8) (a : Fin 4) (t : Fin 2048) :
    found s (ix3 b a t) = top (fun n => s (ix4 b a t n)) := by
  pointwise [found]
  rw [const_neg_inf]
  rfl

theorem largest_at (r : FVec Ideal S8x4x2048 .f32) (b : Fin 8) (a : Fin 4) (t : Fin 2048) :
    largest r (ix3 b a t) = r (ix3 b a t) := by
  pointwise [largest]
  rw [const_neg_inf, max_bot_left]

theorem parts_at (s : FVec Ideal S8x4x2048x256 .f32) (b : Fin 8) (a : Fin 4) (t : Fin 2048) (n : Fin 256) :
    parts s (ix4 b a t n) = part (fun n => s (ix4 b a t n)) n := by
  have h : parts s (ix4 b a t n) = Ideal.exp (s (ix4 b a t n) - spread (largest (found s)) (ix4 b a t n)) := rfl
  rw [h, spread_at, largest_at, found_at, part]

theorem sums_at (p : FVec Ideal S8x4x2048x256 .f32) (b : Fin 8) (a : Fin 4) (t : Fin 2048) :
    sums p (ix3 b a t) = ∑ n : Fin 256, p (ix4 b a t n) := by
  pointwise [sums]

theorem weights_at (s : FVec Ideal S8x4x2048x256 .f32) (b : Fin 8) (a : Fin 4) (t : Fin 2048) (n : Fin 256) :
    weights (parts s) (ix4 b a t n) = weight (fun n => s (ix4 b a t n)) n := by
  have h : weights (parts s) (ix4 b a t n) = Ideal.div (parts s (ix4 b a t n)) (spread (sums (parts s)) (ix4 b a t n)) := rfl
  rw [h, spread_at, sums_at, weight, total]
  simp only [parts_at]

theorem averaged_at (kv : FVec Ideal S4x8x256x2048 .bf16) (w : FVec Ideal S8x4x2048x256 .f32) (b : Fin 8) (t : Fin 2048) (i : Fin 1024) :
    averaged (pairs kv) w (ix3 b t i)
      = ∑ n : Fin 256, kv (ix4 0 b n ⟨1024 + i / 256 * 256 + i % 256, by omega⟩) * w (ix4 b ⟨i / 256, by omega⟩ t n) := by
  pointwise [averaged, pairs]

theorem projected_at (o : FVec Ideal S8x2048x1024 .f32) (wo : FVec Ideal S4x1024x1024 .f32) (b : Fin 8) (t : Fin 2048) (j : Fin 1024) :
    projected o wo (ix3 b t j) = vecMul (fun i => o (ix3 b t i)) (fun i j => wo (ix3 0 i j)) j := by
  pointwise [projected]
  rfl

/-- The reference's result is the whole result as the layer defines it. -/
theorem ref (m : (ℓ : Loc nD τ sig) → Buf (Elt Ideal) ℓ) (c : Dev nD) :
    (Value.res_out0 m c : FVec Ideal S8x2048x1024 .f32)
      = Cross.whole Cross.heads (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [stages]
  generalize m ((c.tc : Thread nD τ).loc main_arg0) = x
  generalize m ((c.tc : Thread nD τ).loc main_arg1) = g
  generalize m ((c.tc : Thread nD τ).loc main_arg2) = kv
  generalize m ((c.tc : Thread nD τ).loc main_arg3) = wq
  generalize m ((c.tc : Thread nD τ).loc main_arg4) = wo
  change FVec Ideal S8x2048x1024 .f32 at x
  change FVec Ideal S4x3x1024 .f32 at g
  change FVec Ideal S4x8x256x2048 .bf16 at kv
  change FVec Ideal S4x1024x1024 .f32 at wq wo
  funext i
  idx_vars i
  refine congrArg (x (ix3 i0 i1 i2) + ·) ?_
  rw [normed_at]
  simp only [projected_at, averaged_at, weights_at, scaled_at, normed_at, gain0_at, gain1_at]
  rfl

end Cert.CrossRefIdeal.Block
end
-- ==== Proof.Cross.Claims.lean ====
module

public import proofs.«01_k».proof.Defs
public import proofs.«01_k».proof.Proof.Cross.Array
public import proofs.«01_k».proof.Proof.Cross.Ref
public import proofs.«01_k».proof.Proof.Finite.Decode
public import proofs.«01_k».proof.Proof.Gen.Cross.Frame
public import proofs.«01_k».proof.Proof.Gen.CrossIdeal.Frame
public import proofs.«01_k».proof.Proof.Gen.CrossRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem
namespace Cert.Cross.Claims

variable [Cert.Pre_cross_scores_finite.Facts]

/-- The kernel ends with its arguments as they were and every counter at zero. -/
theorem frame_kernel : Cert.quiescent_Cross := fun m ρ _ => Cert.Cross.Gen.frame m ρ

/-- The same of the kernel over the extended reals. -/
theorem frame_ideal : Cert.quiescent_CrossIdeal := fun m ρ _ => Cert.CrossIdeal.Gen.frame m ρ

/-- The same under the precondition. -/
theorem frame_ideal_pre : Cert.quiescent_CrossIdeal_pre_cross_scores_finite := fun m ρ _ => Cert.CrossIdeal.Gen.frame m ρ

/-- The same of the reference. -/
theorem frame_reference : Cert.quiescent_CrossRefIdeal := fun m ρ _ =>
  (θ_run _ _ _).mono (fun r h => ⟨fun c => (h c).2, sem_eq_zero_of_no_sems (by decide) r.2⟩) (Cert.CrossRefIdeal.Value.run m ρ)

/-- The same of the reference under the precondition. -/
theorem frame_reference_pre : Cert.quiescent_CrossRefIdeal_pre_cross_scores_finite := fun m ρ _ =>
  (θ_run _ _ _).mono (fun r h => ⟨fun c => (h c).2, sem_eq_zero_of_no_sems (by decide) r.2⟩) (Cert.CrossRefIdeal.Value.run m ρ)

/-- The kernel over the extended reals is the kernel, nothing being replaced. -/
theorem preserved : Cert.preserves_Cross_CrossIdeal := trivial

/-- The precondition of the cross-attention says that layer 0's first gains, its keys and its query weights are real numbers. -/
theorem real_arguments {x : FVec Ideal ⟨3, ![8, 2048, 1024]⟩ .f32} {g : FVec Ideal ⟨3, ![4, 3, 1024]⟩ .f32}
    {kv : FVec Ideal ⟨4, ![4, 8, 256, 2048]⟩ .bf16} {wq wo : FVec Ideal ⟨3, ![4, 1024, 1024]⟩ .f32}
    (h : Cert.Pre_cross_scores_finite.fn (F := Ideal) x g kv wq wo = fun _ => 1#1) :
    (∀ k, Finite.IsReal (g (ix3 0 0 k))) ∧ (∀ b n (d : Fin 1024), Finite.IsReal (kv (ix4 0 b n ⟨d, by omega⟩))) ∧
      ∀ k d, Finite.IsReal (wq (ix3 0 k d)) := by
  obtain ⟨h2, hq⟩ := Finite.both h
  obtain ⟨hg, hk⟩ := Finite.both h2
  refine ⟨fun k => ?_, fun b n d => ?_, fun k d => ?_⟩
  · have e : extractStridedSlice Cert.Pre_cross_scores_finite.S1x1x1024 ![0, 0, 0] g
        Cert.Pre_cross_scores_finite.Facts.slices_S4x3x1024_S1x1x1024_0_0_0 (ix3 0 0 k) = g (ix3 0 0 k) :=
      (Pointwise.extractStridedSlice_apply _ _ _ _).trans (congrArg g (funext fun a => by fin_cases a <;> exact Fin.ext (Nat.zero_add _)))
    exact (congrArg Finite.IsReal e).mp (Finite.isReal_of_all hg (ix3 0 0 k))
  · have e : extractStridedSlice Cert.Pre_cross_scores_finite.S1x8x256x1024 ![0, 0, 0, 0] kv
        Cert.Pre_cross_scores_finite.Facts.slices_S4x8x256x2048_S1x8x256x1024_0_0_0_0 (ix4 0 b n d) = kv (ix4 0 b n ⟨d, by omega⟩) :=
      (Pointwise.extractStridedSlice_apply _ _ _ _).trans (congrArg kv (funext fun a => by fin_cases a <;> exact Fin.ext (Nat.zero_add _)))
    exact (congrArg Finite.IsReal e).mp (Finite.isReal_of_all hk (ix4 0 b n d))
  · have e : extractStridedSlice Cert.Pre_cross_scores_finite.S1x1024x1024 ![0, 0, 0] wq
        Cert.Pre_cross_scores_finite.Facts.slices_S4x1024x1024_S1x1024x1024_0_0_0 (ix3 0 k d) = wq (ix3 0 k d) :=
      (Pointwise.extractStridedSlice_apply _ _ _ _).trans (congrArg wq (funext fun a => by fin_cases a <;> exact Fin.ext (Nat.zero_add _)))
    exact (congrArg Finite.IsReal e).mp (Finite.isReal_of_all hq (ix3 0 k d))

/-- Over the extended reals the kernel's result is the reference's, for real first gains, keys and query weights. -/
theorem algebraic : Cert.algebraic_CrossIdeal_CrossRefIdeal_pre_cross_scores_finite := by
  pair_intro
  · run_from Cert.CrossIdeal.Gen.run_main m g
  · run_from Cert.CrossRefIdeal.Value.run m' g'
    refine (Cert.CrossRefIdeal.Block.ref m' c).trans ?_
    refine Eq.trans ?_ (Cert.CrossIdeal.Array.final m c).symm
    obtain ⟨hg, hk, hwq⟩ := real_arguments (hpre c)
    obtain ⟨h0, h1, h2, h3, h4⟩ := hagree c
    rw [h0, h1, h2, h3, h4]
    exact (Cross.whole_eq hg hk hwq _).symm

end Cert.Cross.Claims
end
-- ==== Proof.MemKv.Block.lean ====
module

public import proofs.«01_k».proof.Proof.Gen.MemKvIdeal.Value
public import proofs.«01_k».proof.Proof.Gen.MemKvRefIdeal.Run
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Rows

namespace Cert.MemKv

/-- The whole result: at layer `i 0`, batch entry `i 1`, memory row `i 2` and column `i 3`, that memory row normalized
    with the layer's third gain row, times the layer's key and value matrix. -/
def whole (mem : FVec Ideal ⟨3, ![8, 256, 1024]⟩ .f32) (g : FVec Ideal ⟨3, ![4, 3, 1024]⟩ .f32)
    (w : FVec Ideal ⟨3, ![4, 1024, 2048]⟩ .f32) : FVec Ideal ⟨4, ![4, 8, 256, 2048]⟩ .bf16 := fun i =>
  vecMul (rms (fun k => mem (ix3 (i 1) (i 2) k)) (fun k => g (ix3 (i 0) 2 k))) (fun k d => w (ix3 (i 0) k d)) (i 3)

/-- Rows with equal operands are equal. -/
theorem row_congr {x x' g g' : Fin 1024 → EReal} {w w' : Fin 1024 → Fin 2048 → EReal} {j j' : Fin 2048} (hx : x = x')
    (hg : g = g') (hw : w = w') (hj : j = j') : vecMul (rms x g) w j = vecMul (rms x' g') w' j' := by
  subst_vars; rfl

end Cert.MemKv

namespace Cert.MemKvIdeal.Block

open Cert.MemKvIdeal Cert.MemKvIdeal.Gen

/-- The value the body stores, at row `r` and lane `j` of the block: the normalized memory row times the matrix. -/
theorem pay (x : FVec Ideal S1x256x1024 .f32) (g : FVec Ideal S1x1x1024 .f32) (w : FVec Ideal S1x1024x2048 .bf16)
    (a b : Fin 1) (r : Fin 256) (j : Fin 2048) :
    k0_pay1 (F := Ideal) x g w (ix4 a b r j)
      = vecMul (rms (fun k => x (ix3 0 r k)) (fun k => g (ix3 0 0 k))) (fun k d => w (ix3 0 k d)) j := by
  pointwise [k0_pay1]
  rfl

end Cert.MemKvIdeal.Block

namespace Cert.MemKvRefIdeal.Block

open Cert.MemKvRefIdeal Cert.MemKvRefIdeal.Gen

/-- The reference's result is the whole result: the four layers' products, stacked. -/
theorem ref (m : (ℓ : Loc nD τ sig) → Buf (Elt Ideal) ℓ) (c : Dev nD) :
    (Value.res_out0 m c : FVec Ideal S4x8x256x2048 .bf16)
      = MemKv.whole (m ((c.tc : Thread nD τ).loc main_arg0)) (m ((c.tc : Thread nD τ).loc main_arg1))
          (m ((c.tc : Thread nD τ).loc main_arg2)) := by
  funext i
  idx_vars i
  pointwise [Value.res_out0, Value.res_main_v77]
  fin_cases i0
  · rfl
  · rfl
  · rfl
  · rfl

end Cert.MemKvRefIdeal.Block
end
-- ==== Proof.MemKv.Array.lean ====
module

public import proofs.«01_k».proof.Proof.MemKv.Block

@[expose] public section

set_option maxRecDepth 16384

noncomputable section

open Idealize.ShloMosaic Idealize.ShloMosaic.TcCoe Idealize.SL.Sem
open Idealize.ShloMosaic.Pipeline (Dat)

namespace Cert.MemKvIdeal.Array

open Cert.MemKvIdeal Cert.MemKvIdeal.Gen

variable (m : (ℓ : Loc nD τ sig) → Buf (Elt Ideal) ℓ)

/-- Which block of its array each window has at grid point `t`. -/
theorem idx : ∀ t : Fin cfg0.N, win0_0.index t = ![t.val % 8, 0, 0] ∧ win0_1.index t = ![t.val / 8, 0, 0]
    ∧ win0_2.index t = ![t.val / 8, 0, 0] ∧ win0_3.index t = ![t.val / 8, t.val % 8, 0, 0] ∧ t.val / 8 < 4 :=
  (by decide +kernel : ∀ t : Fin grid0.N, _)

/-- The result array after the run is the whole result of the arguments. -/
theorem final (c : Dev nD) : (dats m 0 c).arrAt 3 (cfgs 0).N
    = MemKv.whole (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  idx_vars y
  refine (Block.pay _ _ _ _ _ _ _).trans ?_
  unfold MemKv.whole
  refine MemKv.row_congr (funext fun k => ?_) (funext fun k => ?_) (funext fun k => funext fun d => ?_) ?_
  · pointwise; blk_point [iblk, V, idx t]
  · pointwise; blk_point [iblk, V, idx t]
  · pointwise; blk_point [iblk, V, idx t]
  · apply Fin.ext; blk_simp [idx t]; done

end Cert.MemKvIdeal.Array
end
-- ==== Proof.MemKv.Claims.lean ====
module

public import proofs.«01_k».proof.Defs
public import proofs.«01_k».proof.Proof.MemKv.Array
public import proofs.«01_k».proof.Proof.Gen.MemKv.Frame
public import proofs.«01_k».proof.Proof.Gen.MemKvIdeal.Frame
public import proofs.«01_k».proof.Proof.Gen.MemKvRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem
namespace Cert.MemKv.Claims

/-- The kernel ends with its arguments as they were and every counter at zero. -/
theorem frame_kernel : Cert.quiescent_MemKv := fun m ρ _ => Cert.MemKv.Gen.frame m ρ

/-- The same of the kernel over the extended reals. -/
theorem frame_ideal : Cert.quiescent_MemKvIdeal := fun m ρ _ => Cert.MemKvIdeal.Gen.frame m ρ

/-- The same of the reference. -/
theorem frame_reference : Cert.quiescent_MemKvRefIdeal := fun m ρ _ =>
  (θ_run _ _ _).mono (fun r h => ⟨fun c => (h c).2, sem_eq_zero_of_no_sems (by decide) r.2⟩) (Cert.MemKvRefIdeal.Value.run m ρ)

/-- The kernel over the extended reals is the kernel, nothing being replaced. -/
theorem preserved : Cert.preserves_MemKv_MemKvIdeal := trivial

/-- Over the extended reals the kernel's result is the reference's. -/
theorem algebraic : Cert.algebraic_MemKvIdeal_MemKvRefIdeal := by
  pair_intro
  · run_from Cert.MemKvIdeal.Gen.run_main m g
  · run_from Cert.MemKvRefIdeal.Value.run m' g'
    refine (Cert.MemKvRefIdeal.Block.ref m' c).trans ?_
    refine Eq.trans ?_ (Cert.MemKvIdeal.Array.final m c).symm
    obtain ⟨h0, h1, h2⟩ := hagree c
    rw [h0, h1, h2]

end Cert.MemKv.Claims
end
-- ==== Proof.InProj.Block.lean ====
module

public import proofs.«01_k».proof.Proof.Gen.InProjIdeal.Frame
public import proofs.«01_k».proof.Proof.Gen.InProjRefIdeal.Run
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Rows

namespace Cert.InProj

/-- A number times its logistic function. -/
def silu (z : EReal) : EReal := z * Ideal.div 1 (1 + Ideal.exp (-z))

/-- Root-mean-square normalization of a row of 128 entries with gains `g`. -/
def rmsShort (x g : Fin 128 → EReal) (j : Fin 128) : EReal :=
  x j * Ideal.rsqrt (Ideal.div (∑ k : Fin 128, x k * x k) (Ideal.ofBits .f32 0x43000000#32) + Ideal.ofBits .f32 0x358637BD#32) * g j

/-- The latent values of a row: it is projected to 128 lanes, normalized there, and expanded. -/
def latent (h : Fin 1024 → EReal) (wa : Fin 1024 → Fin 128 → EReal) (g : Fin 128 → EReal) (wb : Fin 128 → Fin 512 → EReal)
    (j : Fin 512) : EReal := vecMul (rmsShort (vecMul h wa) g) wb j

/-- The normalized row of token `i`. -/
def normed (x : FVec Ideal ⟨2, ![16384, 1024]⟩ .f32) (g : FVec Ideal ⟨3, ![4, 2, 1024]⟩ .f32) (i : Fin 16384) : Fin 1024 → EReal :=
  rms (fun k => x (ix2 i k)) (fun k => g (ix3 0 0 k))

/-- The columns of layer 0's input matrix that start at column `c`. -/
def columns (n c : ℕ) (h : c + n ≤ 6560) (w : FVec Ideal ⟨3, ![4, 1024, 6560]⟩ .f32) (k : Fin 1024) (d : Fin n) : EReal :=
  w (ix3 0 k ⟨c + d, by omega⟩)

/-- The retention's values: 512 columns of the projection, from column 512. -/
def values (x : FVec Ideal ⟨2, ![16384, 1024]⟩ .f32) (g : FVec Ideal ⟨3, ![4, 2, 1024]⟩ .f32)
    (w : FVec Ideal ⟨3, ![4, 1024, 6560]⟩ .f32) : FVec Ideal ⟨2, ![16384, 512]⟩ .bf16 := fun i =>
  vecMul (normed x g (i 0)) (columns 512 512 (by omega) w) (i 1)

/-- The retention's gate: 512 columns of the projection, from column 1024, each times its logistic function. -/
def gate (x : FVec Ideal ⟨2, ![16384, 1024]⟩ .f32) (g : FVec Ideal ⟨3, ![4, 2, 1024]⟩ .f32)
    (w : FVec Ideal ⟨3, ![4, 1024, 6560]⟩ .f32) : FVec Ideal ⟨2, ![16384, 512]⟩ .bf16 := fun i =>
  silu (vecMul (normed x g (i 0)) (columns 512 1024 (by omega) w) (i 1))

/-- The differential attention's values: 512 columns of the projection, from column 2976. -/
def valuesDiff (x : FVec Ideal ⟨2, ![16384, 1024]⟩ .f32) (g : FVec Ideal ⟨3, ![4, 2, 1024]⟩ .f32)
    (w : FVec Ideal ⟨3, ![4, 1024, 6560]⟩ .f32) : FVec Ideal ⟨2, ![16384, 512]⟩ .bf16 := fun i =>
  vecMul (normed x g (i 0)) (columns 512 2976 (by omega) w) (i 1)

/-- The latent attention's values: 128 columns of the projection, from column 1792, normalized and expanded by the value
    half of each head's 128 columns of the expanding matrix. -/
def valuesLatent (x : FVec Ideal ⟨2, ![16384, 1024]⟩ .f32) (g : FVec Ideal ⟨3, ![4, 2, 1024]⟩ .f32)
    (w : FVec Ideal ⟨3, ![4, 1024, 6560]⟩ .f32) (gl : FVec Ideal ⟨2, ![4, 128]⟩ .f32)
    (wb : FVec Ideal ⟨3, ![4, 128, 1024]⟩ .f32) : FVec Ideal ⟨2, ![16384, 512]⟩ .bf16 := fun i =>
  latent (normed x g (i 0)) (columns 128 1792 (by omega) w) (fun k => gl (ix2 0 k))
    (fun k d => wb (ix3 0 k ⟨d / 64 * 128 + (64 + d % 64), by omega⟩)) (i 1)

end Cert.InProj

namespace Cert.InProjIdeal.Block

open Cert.InProjIdeal Cert.InProjIdeal.Gen

/-- The normalized rows of a block. -/
theorem norm (x : FVec Ideal S512x1024 .f32) (g : FVec Ideal S1x1x1024 .f32) (r : Fin 512) (k : Fin 1024) :
    k0_pay1 (F := Ideal) x g (ix2 r k) = rms (fun k => x (ix2 r k)) (fun k => g (ix3 0 0 k)) k := by
  pointwise [k0_pay1]
  rfl

/-- A stored block of plain columns. -/
theorem plain (h : FVec Ideal S512x1024 .bf16) (w : FVec Ideal S1x1024x512 .bf16) (r j : Fin 512) :
    k0_pay16 (F := Ideal) h w (ix2 r j) = vecMul (fun k => h (ix2 r k)) (fun k d => w (ix3 0 k d)) j := by
  pointwise [k0_pay16]
  rfl

/-- The other stored block of plain columns. -/
theorem plain' (h : FVec Ideal S512x1024 .bf16) (w : FVec Ideal S1x1024x512 .bf16) (r j : Fin 512) :
    k0_pay64 (F := Ideal) h w (ix2 r j) = vecMul (fun k => h (ix2 r k)) (fun k d => w (ix3 0 k d)) j := by
  pointwise [k0_pay64]
  rfl

/-- The stored block of gates. -/
theorem gated (h : FVec Ideal S512x1024 .bf16) (w : FVec Ideal S1x1024x512 .bf16) (r j : Fin 512) :
    k0_pay17 (F := Ideal) h w (ix2 r j) = InProj.silu (vecMul (fun k => h (ix2 r k)) (fun k d => w (ix3 0 k d)) j) := by
  pointwise [k0_pay17]
  rfl

/-- The stored block of latent values. -/
theorem expanded (h : FVec Ideal S512x1024 .bf16) (wa : FVec Ideal S1x1024x256 .bf16) (g : FVec Ideal S1x1x128 .f32)
    (wb : FVec Ideal S1x128x512 .bf16) (r j : Fin 512) :
    k0_pay45 (F := Ideal) (k0_pay34 (k0_pay33 h wa) g) wb (ix2 r j)
      = InProj.latent (fun k => h (ix2 r k)) (fun k d => wa (ix3 0 k ⟨d, by omega⟩)) (fun k => g (ix3 0 0 k))
          (fun k d => wb (ix3 0 k d)) j := by
  pointwise [k0_pay45, k0_pay34, k0_pay33, k0_pay32]
  rfl

end Cert.InProjIdeal.Block
end
-- ==== Proof.InProj.Host.lean ====
module

public import proofs.«01_k».proof.Proof.InProj.Block
public import Idealize.ShloMosaic.Lib.StableHlo.ReadAt

@[expose] public section

set_option maxRecDepth 16384

noncomputable section

open Idealize.ShloMosaic Idealize.ShloMosaic.TcCoe Idealize.SL.Sem

namespace Cert.InProjIdeal.Host

open Cert.InProjIdeal Cert.InProjIdeal.Gen

variable (m : (ℓ : Loc nD τ sig) → Buf (Elt Ideal) ℓ)

/-- The first 1920 columns of the packed input matrix are the input matrix's own. -/
theorem packed_low (c : Dev nD) (k : Fin 1024) (d : Fin 3584) (h : d.val < 1920) :
    (V m c main_v8 : FVec Ideal S4x1024x3584 .bf16) (ix3 0 k d)
      = (m ((c : Thread nD τ).loc main_arg2) : FVec Ideal S4x1024x6560 .f32) (ix3 0 k ⟨d.val, by omega⟩) := by
  unfold V
  after_reads_at
  rw [dif_pos h]
  after_reads_simp
  pointwise

/-- The packed input matrix from column 2048 on is the input matrix from column 1952 on. -/
theorem packed_high (c : Dev nD) (k : Fin 1024) (d : Fin 3584) (h : 2048 ≤ d.val) :
    (V m c main_v8 : FVec Ideal S4x1024x3584 .bf16) (ix3 0 k d)
      = (m ((c : Thread nD τ).loc main_arg2) : FVec Ideal S4x1024x6560 .f32) (ix3 0 k ⟨d.val - 96, by omega⟩) := by
  unfold V
  after_reads_at
  rw [dif_neg (by omega), dif_neg (by omega), dif_neg (by omega), dif_neg (by omega)]
  after_reads_simp
  pointwise
  exact congrArg _ (congrArg _ (Fin.ext (by simp only []; omega)))

/-- The packed value matrix holds the value half of each head's columns of the expanding matrix. -/
theorem expand (c : Dev nD) (k : Fin 128) (d : Fin 512) :
    (V m c main_v21 : FVec Ideal S4x128x512 .bf16) (ix3 0 k d)
      = (m ((c : Thread nD τ).loc main_arg6) : FVec Ideal S4x128x1024 .f32) (ix3 0 k ⟨d.val / 64 * 128 + (64 + d.val % 64), by omega⟩) := by
  unfold V
  after_reads_at

/-- The reshaped gains of the latent row are the gains. -/
theorem gains (c : Dev nD) (k : Fin 128) :
    (V m c main_v23 : FVec Ideal S4x1x128 .f32) (ix3 0 0 k)
      = (m ((c : Thread nD τ).loc main_arg4) : FVec Ideal S4x128 .f32) (ix2 0 k) := by
  unfold V
  after_reads_at

end Cert.InProjIdeal.Host
end
-- ==== Proof.InProj.Array.lean ====
module

public import proofs.«01_k».proof.Proof.InProj.Host

@[expose] public section

set_option maxRecDepth 16384

noncomputable section

open Idealize.ShloMosaic Idealize.ShloMosaic.TcCoe Idealize.SL.Sem
open Idealize.ShloMosaic.Pipeline (Dat)
open Cert.Rows

namespace Cert.InProj

/-- Products with equal operands are equal. -/
theorem vecMul_congr {n p : ℕ} {x x' : Fin n → EReal} {w w' : Fin n → Fin p → EReal} {j j' : Fin p} (hx : x = x') (hw : w = w')
    (hj : j = j') : vecMul x w j = vecMul x' w' j' := by
  subst_vars; rfl

/-- Normalized rows with equal operands are equal. -/
theorem rms_congr {x x' g g' : Fin 1024 → EReal} (hx : x = x') (hg : g = g') : rms x g = rms x' g' := by
  subst_vars; rfl

/-- Latent values with equal operands are equal. -/
theorem latent_congr {h h' : Fin 1024 → EReal} {wa wa' : Fin 1024 → Fin 128 → EReal} {g g' : Fin 128 → EReal}
    {wb wb' : Fin 128 → Fin 512 → EReal} {j j' : Fin 512} (hh : h = h') (ha : wa = wa') (hg : g = g') (hb : wb = wb') (hj : j = j') :
    latent h wa g wb j = latent h' wa' g' wb' j' := by
  subst_vars; rfl

end Cert.InProj

namespace Cert.InProjIdeal.Array

open Cert.InProjIdeal Cert.InProjIdeal.Gen

variable (m : (ℓ : Loc nD τ sig) → Buf (Elt Ideal) ℓ)

/-- Which block of its array each window has at grid point `t`. -/
theorem idx : ∀ t : Fin cfg0.N, win0_0.index t = ![t.val, 0] ∧ win0_1.index t = ![0, 0, 0] ∧ win0_2.index t = ![0, 0, 0]
    ∧ win0_4.index t = ![0, 0, 0] ∧ win0_7.index t = ![0, 0, 0] ∧ win0_12.index t = ![t.val, 0] ∧ win0_13.index t = ![t.val, 0]
    ∧ win0_16.index t = ![t.val, 0] ∧ win0_19.index t = ![t.val, 0] :=
  (by decide +kernel : ∀ t : Fin grid0.N, _)

/-- The block of the packed input matrix is the matrix of layer 0. -/
theorem packed (c : Dev nD) (t : Fin cfg0.N) (k : Fin 1024) (d : Fin 3584) :
    (iblk m c 2 t : FVec Ideal S1x1024x3584 .bf16) (ix3 0 k d) = (V m c main_v8 : FVec Ideal S4x1024x3584 .bf16) (ix3 0 k d) := by
  blk_point [iblk, idx t]

/-- The block of the packed value matrix is the matrix of layer 0. -/
theorem expand (c : Dev nD) (t : Fin cfg0.N) (k : Fin 128) (d : Fin 512) :
    (iblk m c 7 t : FVec Ideal S1x128x512 .bf16) (ix3 0 k d) = (V m c main_v21 : FVec Ideal S4x128x512 .bf16) (ix3 0 k d) := by
  blk_point [iblk, idx t]

/-- The block of the latent row's gains is that of layer 0. -/
theorem gains (c : Dev nD) (t : Fin cfg0.N) (k : Fin 128) :
    (iblk m c 4 t : FVec Ideal S1x1x128 .f32) (ix3 0 0 k) = (V m c main_v23 : FVec Ideal S4x1x128 .f32) (ix3 0 0 k) := by
  blk_point [iblk, idx t]

/-- The array of the retention's values after the run. -/
theorem values (c : Dev nD) : (dats m 0 c).arrAt 12 (cfgs 0).N
    = InProj.values (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]; frame_out
  idx_vars y
  refine (Block.plain _ _ _ _).trans ?_
  unfold InProj.values InProj.normed
  refine InProj.vecMul_congr ((funext fun k => Block.norm _ _ _ k).trans (InProj.rms_congr (funext fun k => ?_) (funext fun k => ?_)))
    (funext fun k => funext fun d => ?_) ?_
  · blk_point [iblk, V, idx t]
  · pointwise; blk_point [iblk, V, idx t]
  · unfold InProj.columns
    pointwise
    exact (packed m c t k ⟨512 + d.val, by omega⟩).trans (Host.packed_low m c k _ (by simp only []; omega))
  · apply Fin.ext; blk_simp [idx t]; done

/-- The array of the retention's gates after the run. -/
theorem gate (c : Dev nD) : (dats m 0 c).arrAt 13 (cfgs 0).N
    = InProj.gate (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]; frame_out
  idx_vars y
  refine (Block.gated _ _ _ _).trans ?_
  unfold InProj.gate InProj.normed
  refine congrArg InProj.silu (InProj.vecMul_congr ((funext fun k => Block.norm _ _ _ k).trans (InProj.rms_congr (funext fun k => ?_) (funext fun k => ?_)))
    (funext fun k => funext fun d => ?_) ?_)
  · blk_point [iblk, V, idx t]
  · pointwise; blk_point [iblk, V, idx t]
  · unfold InProj.columns
    pointwise
    exact (packed m c t k ⟨1024 + d.val, by omega⟩).trans (Host.packed_low m c k _ (by simp only []; omega))
  · apply Fin.ext; blk_simp [idx t]; done

/-- The array of the differential attention's values after the run. -/
theorem valuesDiff (c : Dev nD) : (dats m 0 c).arrAt 19 (cfgs 0).N
    = InProj.valuesDiff (m ((c : Thread nD τ).loc main_arg0)) (m ((c : Thread nD τ).loc main_arg1)) (m ((c : Thread nD τ).loc main_arg2)) := by
  refine (dats m 0 c).arrAt_eq_of_covers 19 _ (by decide +kernel) fun t _ y => ?_
  blk_simp
  rw [after0_19]; frame_out
  idx_vars y
  refine (Block.plain' _ _ _ _).trans ?_
  unfold InProj.valuesDiff InProj.normed
  refine InProj.vecMul_congr ((funext fun k => Block.norm _ _ _ k).trans (InProj.rms_congr (funext fun k => ?_) (funext fun k => ?_)))
    (funext fun k => funext fun d => ?_) ?_
  · blk_point [iblk, V, idx t]
  · pointwise; blk_point [iblk, V, idx t]
  · unfold InProj.columns
    pointwise
    exact (packed m c t k ⟨3072 + d.val, by omega⟩).trans ((Host.packed_high m c k _ (by simp only []; omega)).trans (congrArg _ (congrArg _ (Fin.ext (by simp only []; omega)))))
  · apply Fin.ext; blk_simp [idx t]; done

/-- The array of the latent attention's values after the run. -/
theorem valuesLatent (c : Dev nD) : (dats m 0 c).arrAt 16 (cfgs 0).N
    = InProj.valuesLatent (m ((c : Thread nD τ).loc main_arg0)) (m ((c : Thread nD τ).loc main_arg1)) (m ((c : Thread nD τ).loc main_arg2))
        (m ((c : Thread nD τ).loc main_arg4)) (m ((c : Thread nD τ).loc main_arg6)) := by
  refine (dats m 0 c).arrAt_eq_of_covers 16 _ (by decide +kernel) fun t _ y => ?_
  blk_simp
  rw [after0_16]; frame_out
  idx_vars y
  refine (Block.expanded _ _ _ _ _ _).trans ?_
  unfold InProj.valuesLatent InProj.normed
  refine InProj.latent_congr ((funext fun k => Block.norm _ _ _ k).trans (InProj.rms_congr (funext fun k => ?_) (funext fun k => ?_)))
    (funext fun k => funext fun d => ?_) (funext fun k => ?_) (funext fun k => funext fun d => ?_) ?_
  · blk_point [iblk, V, idx t]
  · pointwise; blk_point [iblk, V, idx t]
  · unfold InProj.columns
    pointwise
    exact (packed m c t k ⟨1792 + d.val, by omega⟩).trans (Host.packed_low m c k _ (by simp only []; omega))
  · pointwise
    exact (gains m c t k).trans (Host.gains m c k)
  · pointwise
    exact (expand m c t k d).trans (Host.expand m c k d)
  · apply Fin.ext; blk_simp [idx t]; done

end Cert.InProjIdeal.Array
end
-- ==== Proof.InProj.Ref.lean ====
module

public import proofs.«01_k».proof.Proof.Gen.InProjRefIdeal.Run
public import proofs.«01_k».proof.Proof.InProj.Block

public import Idealize.ShloMosaic.Lib.Pointwise

@[expose] public section

set_option maxRecDepth 16384

noncomputable section

open Idealize.ShloMosaic Idealize.ShloMosaic.TcCoe Idealize.SL.Sem
open Cert.Rows

namespace Cert.InProjRefIdeal.Block

open Cert.InProjRefIdeal Cert.InProjRefIdeal.Gen

/-- The reference's latent values. -/
theorem latent (m : (ℓ : Loc nD τ sig) → Buf (Elt Ideal) ℓ) (c : Dev nD) :
    (Value.res_out2 m c : FVec Ideal S16384x512 .bf16)
      = InProj.valuesLatent (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg6)) := by
  funext i
  idx_vars i
  pointwise [Value.res_out2, Value.res_main_v53]
  rfl

end Cert.InProjRefIdeal.Block
end
-- ==== Proof.InProj.Claims.lean ====
module

public import proofs.«01_k».proof.Defs
public import proofs.«01_k».proof.Proof.Gen.InProjIdeal.Value
public import proofs.«01_k».proof.Proof.Gen.InProj.Frame
public import proofs.«01_k».proof.Proof.Gen.InProjIdeal.Frame
public import proofs.«01_k».proof.Proof.InProj.Array
public import proofs.«01_k».proof.Proof.InProj.Ref
public import Idealize.ShloMosaic.Lib.Claim
public import Idealize.ShloMosaic.Lib.Quiescent

@[expose] public section

set_option maxRecDepth 16384

noncomputable section

open Idealize.ShloMosaic Idealize.ShloMosaic.TcCoe Idealize.SL.Sem
namespace Cert.InProj.Claims

/-- The kernel ends with its arguments as they were and every counter at zero. -/
theorem frame_kernel : Cert.quiescent_InProj := fun m ρ _ => Cert.InProj.Gen.frame m ρ

/-- The same of the kernel over the extended reals. -/
theorem frame_ideal : Cert.quiescent_InProjIdeal := fun m ρ _ => Cert.InProjIdeal.Gen.frame m ρ

/-- The same of the reference. -/
theorem frame_reference : Cert.quiescent_InProjRefIdeal := fun m ρ _ =>
  (θ_run _ _ _).mono (fun r h => ⟨fun c => (h c).2.2.2.2, sem_eq_zero_of_no_sems (by decide) r.2⟩) (Cert.InProjRefIdeal.Value.run m ρ)

/-- The kernel over the extended reals is the kernel, nothing being replaced. -/
theorem preserved : Cert.preserves_InProj_InProjIdeal := trivial

/-- Over the extended reals the kernel's four results are the reference's. -/
theorem algebraic : Cert.algebraic_InProjIdeal_InProjRefIdeal := by
  intro m g m' g' hpre hagree
  refine ⟨fun c => InProj.values (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => InProj.gate (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => InProj.valuesLatent (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))
      (m ((c.tc : Thread Cert.InProjIdeal.nD Cert.InProjIdeal.τ).loc Cert.InProjIdeal.main_arg4)) (m ((c.tc : Thread Cert.InProjIdeal.nD Cert.InProjIdeal.τ).loc Cert.InProjIdeal.main_arg6)),
    fun c => InProj.valuesDiff (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), ?_, ?_⟩
  · refine Idealize.ShloMosaic.θ_run_mono
      (Idealize.ShloMosaic.θ_run_and (Cert.InProjIdeal.Gen.run_main m g) (Cert.InProjIdeal.Gen.unchanged m g)) ?_
    rintro r ⟨hr, hu⟩ c
    exact ⟨(Cert.InProjIdeal.Value.post12 m r hr c).trans (Cert.InProjIdeal.Array.values m c),
      (Cert.InProjIdeal.Value.post13 m r hr c).trans (Cert.InProjIdeal.Array.gate m c),
      (Cert.InProjIdeal.Value.post16 m r hr c).trans (Cert.InProjIdeal.Array.valuesLatent m c),
      (Cert.InProjIdeal.Value.post19 m r hr c).trans (Cert.InProjIdeal.Array.valuesDiff m c), hu c⟩
  · run_from Cert.InProjRefIdeal.Value.run m' g'
    · funext i; idx_vars i; pointwise; rfl
    · funext i; idx_vars i; pointwise; rfl
    · refine (Cert.InProjRefIdeal.Block.latent m' c).trans ?_
      obtain ⟨h0, h1, h2, h3, h4, h5, h6, h7, h8⟩ := hagree c
      rw [h0, h1, h2, h4, h6]
    · funext i; idx_vars i; pointwise; rfl

end Cert.InProj.Claims
end
-- ==== Proof.lean ====
/- The proof of the claims: each program's claims are proved in its own module, and put together here. -/
module

public import proofs.«01_k».proof.Proof.Mla.Claims
public import proofs.«01_k».proof.Proof.Diff.Claims
public import proofs.«01_k».proof.Proof.Ffn.Claims
public import proofs.«01_k».proof.Proof.Merge.Claims
public import proofs.«01_k».proof.Proof.Cross.Claims
public import proofs.«01_k».proof.Proof.MemKv.Claims
public import proofs.«01_k».proof.Proof.InProj.Claims
public import proofs.«01_k».proof.Defs

@[expose] public section

set_option maxRecDepth 16384

noncomputable section

open Idealize.ShloMosaic Idealize.ShloMosaic.TcCoe Idealize.SL.Sem
/-- The shapes that the precondition's operations relate do so. -/
instance : Cert.Pre_scores_finite.Facts := by constructor <;> decide

/-- The shapes that the precondition's operations relate do so. -/
instance : Cert.Pre_diff_scores_finite.Facts := by constructor <;> decide

/-- The shapes that the precondition's operations relate do so. -/
instance : Cert.Pre_cross_scores_finite.Facts := by constructor <;> decide

/-- Everything that the certificate claims. -/
theorem Cert.Proof.claim : Cert.Claim :=
  ⟨Cert.Mla.Gen.facts, Cert.MlaIdeal.Gen.facts, Cert.MlaRefIdeal.Gen.facts, Cert.Diff.Gen.facts, Cert.DiffIdeal.Gen.facts, Cert.DiffRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Cross.Gen.facts, Cert.CrossIdeal.Gen.facts, Cert.CrossRefIdeal.Gen.facts, Cert.MemKv.Gen.facts, Cert.MemKvIdeal.Gen.facts, Cert.MemKvRefIdeal.Gen.facts, Cert.InProj.Gen.facts, Cert.InProjIdeal.Gen.facts, Cert.InProjRefIdeal.Gen.facts, inferInstance, inferInstance, inferInstance,
    Mla.Claims.frame_kernel,
    Mla.Claims.frame_ideal,
    Mla.Claims.frame_ideal_pre,
    Mla.Claims.frame_reference,
    Mla.Claims.frame_reference_pre,
    Diff.Claims.frame_kernel,
    Diff.Claims.frame_ideal,
    Diff.Claims.frame_ideal_pre,
    Diff.Claims.frame_reference,
    Diff.Claims.frame_reference_pre,
    Ffn.Claims.frame_kernel,
    Ffn.Claims.frame_ideal,
    Ffn.Claims.frame_reference,
    Merge.Claims.frame_kernel,
    Merge.Claims.frame_ideal,
    Merge.Claims.frame_reference,
    Cross.Claims.frame_kernel,
    Cross.Claims.frame_ideal,
    Cross.Claims.frame_ideal_pre,
    Cross.Claims.frame_reference,
    Cross.Claims.frame_reference_pre,
    MemKv.Claims.frame_kernel,
    MemKv.Claims.frame_ideal,
    MemKv.Claims.frame_reference,
    InProj.Claims.frame_kernel,
    InProj.Claims.frame_ideal,
    InProj.Claims.frame_reference,
    Mla.Claims.preserved,
    Mla.Claims.algebraic,
    Diff.Claims.preserved,
    Diff.Claims.algebraic,
    Ffn.Claims.preserved,
    Ffn.Claims.algebraic,
    Merge.Claims.preserved,
    Merge.Claims.algebraic,
    Cross.Claims.preserved,
    Cross.Claims.algebraic,
    MemKv.Claims.preserved,
    MemKv.Claims.algebraic,
    InProj.Claims.preserved,
    InProj.Claims.algebraic⟩

end
